-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_RefDwIdeal (m : (ℓ : Loc Cert.RefDwIdeal.nD Cert.RefDwIdeal.τ Cert.RefDwIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_RefDxIdeal (m : (ℓ : Loc Cert.RefDxIdeal.nD Cert.RefDxIdeal.τ Cert.RefDxIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_normal_scales [hPre_normal_scales : Cert.Pre_normal_scales.Facts] (m : (ℓ : Loc Cert.FwdIdeal.nD Cert.FwdIdeal.τ Cert.FwdIdeal.sig) → Buf (Elt Ideal) ℓ) : Prop :=
  ∀ c : Dev Cert.FwdIdeal.nD,
    (Cert.Pre_normal_scales.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1))) = (fun _ => 1#1)

def Pre_RefFwdIdeal (m : (ℓ : Loc Cert.RefFwdIdeal.nD Cert.RefFwdIdeal.τ Cert.RefFwdIdeal.sig) → Buf (Elt Ideal) ℓ) : Prop :=
  True

def Pre_RefFwdIdeal_normal_scales [hPre_normal_scales : Cert.Pre_normal_scales.Facts] (m : (ℓ : Loc Cert.RefFwdIdeal.nD Cert.RefFwdIdeal.τ Cert.RefFwdIdeal.sig) → Buf (Elt Ideal) ℓ) : Prop :=
  ∀ c : Dev Cert.RefFwdIdeal.nD,
    (Cert.Pre_normal_scales.fn (F := Ideal) (m ((c.tc : Thread Cert.RefFwdIdeal.nD Cert.RefFwdIdeal.τ).loc Cert.RefFwdIdeal.main_arg0)) (m ((c.tc : Thread Cert.RefFwdIdeal.nD Cert.RefFwdIdeal.τ).loc Cert.RefFwdIdeal.main_arg1))) = (fun _ => 1#1)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_RefDwIdeal [hRefDwIdeal : Cert.RefDwIdeal.Facts] : Prop :=
  ∀ (m : (ℓ : Loc Cert.RefDwIdeal.nD Cert.RefDwIdeal.τ Cert.RefDwIdeal.sig) → Buf (Elt Ideal) ℓ) (g : Dev Cert.RefDwIdeal.nD → PrngReg), Pre_RefDwIdeal m →
    θ_run (Cert.RefDwIdeal.defs (F := Ideal)) (onTc (τ := Cert.RefDwIdeal.τ) (Cert.RefDwIdeal.main (F := Ideal))) ⟨m, fun _ => 0, g⟩ (fun r => (∀ c : Dev Cert.RefDwIdeal.nD,
      r.2.mem ((c.tc : Thread Cert.RefDwIdeal.nD Cert.RefDwIdeal.τ).loc Cert.RefDwIdeal.main_arg0) = m ((c.tc : Thread Cert.RefDwIdeal.nD Cert.RefDwIdeal.τ).loc Cert.RefDwIdeal.main_arg0)
      ∧ r.2.mem ((c.tc : Thread Cert.RefDwIdeal.nD Cert.RefDwIdeal.τ).loc Cert.RefDwIdeal.main_arg1) = m ((c.tc : Thread Cert.RefDwIdeal.nD Cert.RefDwIdeal.τ).loc Cert.RefDwIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_RefDxIdeal [hRefDxIdeal : Cert.RefDxIdeal.Facts] : Prop :=
  ∀ (m : (ℓ : Loc Cert.RefDxIdeal.nD Cert.RefDxIdeal.τ Cert.RefDxIdeal.sig) → Buf (Elt Ideal) ℓ) (g : Dev Cert.RefDxIdeal.nD → PrngReg), Pre_RefDxIdeal m →
    θ_run (Cert.RefDxIdeal.defs (F := Ideal)) (onTc (τ := Cert.RefDxIdeal.τ) (Cert.RefDxIdeal.main (F := Ideal))) ⟨m, fun _ => 0, g⟩ (fun r => (∀ c : Dev Cert.RefDxIdeal.nD,
      r.2.mem ((c.tc : Thread Cert.RefDxIdeal.nD Cert.RefDxIdeal.τ).loc Cert.RefDxIdeal.main_arg0) = m ((c.tc : Thread Cert.RefDxIdeal.nD Cert.RefDxIdeal.τ).loc Cert.RefDxIdeal.main_arg0)
      ∧ r.2.mem ((c.tc : Thread Cert.RefDxIdeal.nD Cert.RefDxIdeal.τ).loc Cert.RefDxIdeal.main_arg1) = m ((c.tc : Thread Cert.RefDxIdeal.nD Cert.RefDxIdeal.τ).loc Cert.RefDxIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_FwdIdeal_pre_normal_scales [hFwdIdeal : Cert.FwdIdeal.Facts] [hPre_normal_scales : Cert.Pre_normal_scales.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_normal_scales m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1))
      ∧ r.2.sem = fun _ => 0)

def quiescent_RefFwdIdeal_pre_normal_scales [hRefFwdIdeal : Cert.RefFwdIdeal.Facts] [hPre_normal_scales : Cert.Pre_normal_scales.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal_normal_scales m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1))
      ∧ r.2.sem = fun _ => 0)

def preserves_Dw_DwIdeal : Prop :=
  True

def algebraic_DwIdeal_RefDwIdeal [hDwIdeal : Cert.DwIdeal.Facts] [hRefDwIdeal : Cert.RefDwIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.RefDwIdeal.nD Cert.RefDwIdeal.τ Cert.RefDwIdeal.sig) → Buf (Elt Ideal) ℓ) (g' : Dev Cert.RefDwIdeal.nD → PrngReg), Pre_DwIdeal m →
    (∀ c : Dev Cert.DwIdeal.nD,
      m' ((c.tc : Thread Cert.RefDwIdeal.nD Cert.RefDwIdeal.τ).loc Cert.RefDwIdeal.main_arg0) = m ((c.tc : Thread Cert.DwIdeal.nD Cert.DwIdeal.τ).loc Cert.DwIdeal.main_arg0)
      ∧ m' ((c.tc : Thread Cert.RefDwIdeal.nD Cert.RefDwIdeal.τ).loc Cert.RefDwIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.RefDwIdeal.defs (F := Ideal)) (onTc (τ := Cert.RefDwIdeal.τ) (Cert.RefDwIdeal.main (F := Ideal))) ⟨m', fun _ => 0, g'⟩ (fun r => ∀ c : Dev Cert.RefDwIdeal.nD,
          r.2.mem ((c.tc : Thread Cert.RefDwIdeal.nD Cert.RefDwIdeal.τ).loc Cert.RefDwIdeal.main_v0) = v0 c
          ∧ r.2.mem ((c.tc : Thread Cert.RefDwIdeal.nD Cert.RefDwIdeal.τ).loc Cert.RefDwIdeal.main_arg0) = m' ((c.tc : Thread Cert.RefDwIdeal.nD Cert.RefDwIdeal.τ).loc Cert.RefDwIdeal.main_arg0)
          ∧ r.2.mem ((c.tc : Thread Cert.RefDwIdeal.nD Cert.RefDwIdeal.τ).loc Cert.RefDwIdeal.main_arg1) = m' ((c.tc : Thread Cert.RefDwIdeal.nD Cert.RefDwIdeal.τ).loc Cert.RefDwIdeal.main_arg1))

def preserves_Dx_DxIdeal : Prop :=
  True

def algebraic_DxIdeal_RefDxIdeal [hDxIdeal : Cert.DxIdeal.Facts] [hRefDxIdeal : Cert.RefDxIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.RefDxIdeal.nD Cert.RefDxIdeal.τ Cert.RefDxIdeal.sig) → Buf (Elt Ideal) ℓ) (g' : Dev Cert.RefDxIdeal.nD → PrngReg), Pre_DxIdeal m →
    (∀ c : Dev Cert.DxIdeal.nD,
      m' ((c.tc : Thread Cert.RefDxIdeal.nD Cert.RefDxIdeal.τ).loc Cert.RefDxIdeal.main_arg0) = m ((c.tc : Thread Cert.DxIdeal.nD Cert.DxIdeal.τ).loc Cert.DxIdeal.main_arg0)
      ∧ m' ((c.tc : Thread Cert.RefDxIdeal.nD Cert.RefDxIdeal.τ).loc Cert.RefDxIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.RefDxIdeal.defs (F := Ideal)) (onTc (τ := Cert.RefDxIdeal.τ) (Cert.RefDxIdeal.main (F := Ideal))) ⟨m', fun _ => 0, g'⟩ (fun r => ∀ c : Dev Cert.RefDxIdeal.nD,
          r.2.mem ((c.tc : Thread Cert.RefDxIdeal.nD Cert.RefDxIdeal.τ).loc Cert.RefDxIdeal.main_v2) = v0 c
          ∧ r.2.mem ((c.tc : Thread Cert.RefDxIdeal.nD Cert.RefDxIdeal.τ).loc Cert.RefDxIdeal.main_arg0) = m' ((c.tc : Thread Cert.RefDxIdeal.nD Cert.RefDxIdeal.τ).loc Cert.RefDxIdeal.main_arg0)
          ∧ r.2.mem ((c.tc : Thread Cert.RefDxIdeal.nD Cert.RefDxIdeal.τ).loc Cert.RefDxIdeal.main_arg1) = m' ((c.tc : Thread Cert.RefDxIdeal.nD Cert.RefDxIdeal.τ).loc Cert.RefDxIdeal.main_arg1))

def preserves_Fwd_FwdIdeal : Prop :=
  True

def algebraic_FwdIdeal_RefFwdIdeal_pre_normal_scales [hFwdIdeal : Cert.FwdIdeal.Facts] [hRefFwdIdeal : Cert.RefFwdIdeal.Facts] [hPre_normal_scales : Cert.Pre_normal_scales.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.RefFwdIdeal.nD Cert.RefFwdIdeal.τ Cert.RefFwdIdeal.sig) → Buf (Elt Ideal) ℓ) (g' : Dev Cert.RefFwdIdeal.nD → PrngReg), Pre_FwdIdeal_normal_scales m →
    (∀ c : Dev Cert.FwdIdeal.nD,
      m' ((c.tc : Thread Cert.RefFwdIdeal.nD Cert.RefFwdIdeal.τ).loc Cert.RefFwdIdeal.main_arg0) = m ((c.tc : Thread Cert.FwdIdeal.nD Cert.FwdIdeal.τ).loc Cert.FwdIdeal.main_arg0)
      ∧ m' ((c.tc : Thread Cert.RefFwdIdeal.nD Cert.RefFwdIdeal.τ).loc Cert.RefFwdIdeal.main_arg1) = m ((c.tc : Thread Cert.FwdIdeal.nD Cert.FwdIdeal.τ).loc Cert.FwdIdeal.main_arg1)) →
    ∃ (v0 : (c : Dev Cert.FwdIdeal.nD) → Buf (Elt Ideal) ((c.tc : Thread Cert.FwdIdeal.nD Cert.FwdIdeal.τ).loc Cert.FwdIdeal.main_v4)) (v1 : (c : Dev Cert.FwdIdeal.nD) → Buf (Elt Ideal) ((c.tc : Thread Cert.FwdIdeal.nD Cert.FwdIdeal.τ).loc Cert.FwdIdeal.main_v1_1)) (v2 : (c : Dev Cert.FwdIdeal.nD) → Buf (Elt Ideal) ((c.tc : Thread Cert.FwdIdeal.nD Cert.FwdIdeal.τ).loc Cert.FwdIdeal.main_v1_2)) (v3 : (c : Dev Cert.FwdIdeal.nD) → Buf (Elt Ideal) ((c.tc : Thread Cert.FwdIdeal.nD Cert.FwdIdeal.τ).loc Cert.FwdIdeal.main_v3)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v4) = v0 c
          ∧ r.2.mem ((c.tc : Thread Cert.FwdIdeal.nD Cert.FwdIdeal.τ).loc Cert.FwdIdeal.main_v1_1) = v1 c
          ∧ r.2.mem ((c.tc : Thread Cert.FwdIdeal.nD Cert.FwdIdeal.τ).loc Cert.FwdIdeal.main_v1_2) = v2 c
          ∧ r.2.mem ((c.tc : Thread Cert.FwdIdeal.nD Cert.FwdIdeal.τ).loc Cert.FwdIdeal.main_v3) = v3 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ θ_run (Cert.RefFwdIdeal.defs (F := Ideal)) (onTc (τ := Cert.RefFwdIdeal.τ) (Cert.RefFwdIdeal.main (F := Ideal))) ⟨m', fun _ => 0, g'⟩ (fun r => ∀ c : Dev Cert.RefFwdIdeal.nD,
          r.2.mem ((c.tc : Thread Cert.RefFwdIdeal.nD Cert.RefFwdIdeal.τ).loc Cert.RefFwdIdeal.main_v0_0) = v0 c
          ∧ r.2.mem ((c.tc : Thread Cert.RefFwdIdeal.nD Cert.RefFwdIdeal.τ).loc Cert.RefFwdIdeal.main_v0_1) = v1 c
          ∧ r.2.mem ((c.tc : Thread Cert.RefFwdIdeal.nD Cert.RefFwdIdeal.τ).loc Cert.RefFwdIdeal.main_v0_2) = v2 c
          ∧ r.2.mem ((c.tc : Thread Cert.RefFwdIdeal.nD Cert.RefFwdIdeal.τ).loc Cert.RefFwdIdeal.main_v0_3) = v3 c
          ∧ r.2.mem ((c.tc : Thread Cert.RefFwdIdeal.nD Cert.RefFwdIdeal.τ).loc Cert.RefFwdIdeal.main_arg0) = m' ((c.tc : Thread Cert.RefFwdIdeal.nD Cert.RefFwdIdeal.τ).loc Cert.RefFwdIdeal.main_arg0)
          ∧ r.2.mem ((c.tc : Thread Cert.RefFwdIdeal.nD Cert.RefFwdIdeal.τ).loc Cert.RefFwdIdeal.main_arg1) = m' ((c.tc : Thread Cert.RefFwdIdeal.nD Cert.RefFwdIdeal.τ).loc Cert.RefFwdIdeal.main_arg1))

def Claim : Prop :=
  ∃ (hDw : Cert.Dw.Facts) (hDwIdeal : Cert.DwIdeal.Facts) (hRefDwIdeal : Cert.RefDwIdeal.Facts) (hDx : Cert.Dx.Facts) (hDxIdeal : Cert.DxIdeal.Facts) (hRefDxIdeal : Cert.RefDxIdeal.Facts) (hFwd : Cert.Fwd.Facts) (hFwdIdeal : Cert.FwdIdeal.Facts) (hRefFwdIdeal : Cert.RefFwdIdeal.Facts) (hPre_normal_scales : Cert.Pre_normal_scales.Facts),
    quiescent_Dw (hDw := hDw)
    ∧ quiescent_DwIdeal (hDwIdeal := hDwIdeal)
    ∧ quiescent_RefDwIdeal (hRefDwIdeal := hRefDwIdeal)
    ∧ quiescent_Dx (hDx := hDx)
    ∧ quiescent_DxIdeal (hDxIdeal := hDxIdeal)
    ∧ quiescent_RefDxIdeal (hRefDxIdeal := hRefDxIdeal)
    ∧ quiescent_Fwd (hFwd := hFwd)
    ∧ quiescent_FwdIdeal (hFwdIdeal := hFwdIdeal)
    ∧ quiescent_FwdIdeal_pre_normal_scales (hFwdIdeal := hFwdIdeal) (hPre_normal_scales := hPre_normal_scales)
    ∧ quiescent_RefFwdIdeal (hRefFwdIdeal := hRefFwdIdeal)
    ∧ quiescent_RefFwdIdeal_pre_normal_scales (hRefFwdIdeal := hRefFwdIdeal) (hPre_normal_scales := hPre_normal_scales)
    ∧ preserves_Dw_DwIdeal
    ∧ algebraic_DwIdeal_RefDwIdeal (hDwIdeal := hDwIdeal) (hRefDwIdeal := hRefDwIdeal)
    ∧ preserves_Dx_DxIdeal
    ∧ algebraic_DxIdeal_RefDxIdeal (hDxIdeal := hDxIdeal) (hRefDxIdeal := hRefDxIdeal)
    ∧ preserves_Fwd_FwdIdeal
    ∧ algebraic_FwdIdeal_RefFwdIdeal_pre_normal_scales (hFwdIdeal := hFwdIdeal) (hRefFwdIdeal := hRefFwdIdeal) (hPre_normal_scales := hPre_normal_scales)
-- ==== Pre_normal_scales.lean ====
abbrev S4x1536x5120 : Shape := ⟨3, ![4, 1536, 5120]⟩
abbrev S5120x17920 : Shape := ⟨2, ![5120, 17920]⟩
abbrev S40x128x140x128 : Shape := ⟨4, ![40, 128, 140, 128]⟩
abbrev S_ : Shape := ⟨0, ![]⟩
abbrev S40x140 : Shape := ⟨2, ![40, 140]⟩

class Facts : Prop where
  shapeCasts_S5120x17920_S40x128x140x128 : S5120x17920.ShapeCasts S40x128x140x128
  reducesTo_S40x128x140x128_S40x140_d1_3 : S40x128x140x128.ReducesTo [1, 3] S40x140
  h_S_ : 0 < S_.numel
  bcast_S_S40x140 : S_.BroadcastsInDim S40x140 (![] : Fin 0 → Fin S40x140.rank)

variable [Facts]

def fn {F : FTy → Type} [FloatOps F] (main_arg0 : FVec F S4x1536x5120 .bf16) (main_arg1 : FVec F S5120x17920 .f32) : IVec S40x140 1 :=
  let main_v0 : FVec F S40x128x140x128 .f32 := shapeCast S40x128x140x128 main_arg1 shapeCasts_S5120x17920_S40x128x140x128
  let main_v1 : FVec F S40x128x140x128 .f32 := Host.absf main_v0
  let main_cst : FVec F S_ .f32 := constant S_ .f32 0xFF800000#32
  let main_v2 : FVec F S40x140 .f32 := (fun x v => Host.reduce FloatOps.maximumf x v reducesTo_S40x128x140x128_S40x140_d1_3 h_S_) main_v1 main_cst
  let main_cst_0 : FVec F S_ .f32 := constant S_ .f32 0x3B124925#32
  let main_v3 : FVec F S40x140 .f32 := broadcastInDim S40x140 ![] bcast_S_S40x140 main_cst_0
  let main_v4 : FVec F S40x140 .f32 := mulf main_v2 main_v3
  let main_cst_1 : FVec F S_ .f32 := constant S_ .f32 0x00000000#32
  let main_v5 : FVec F S40x140 .f32 := broadcastInDim S40x140 ![] bcast_S_S40x140 main_cst_1
  let main_v6 : IVec S40x140 1 := cmpf .oeq main_v2 main_v5
  let main_cst_2 : FVec F S_ .f32 := constant S_ .f32 0x00800000#32
  let main_v7 : FVec F S40x140 .f32 := broadcastInDim S40x140 ![] bcast_S_S40x140 main_cst_2
  let main_v8 : IVec S40x140 1 := cmpf .oge main_v4 main_v7
  let main_cst_3 : FVec F S_ .f32 := constant S_ .f32 0x7E800000#32
  let main_v9 : FVec F S40x140 .f32 := broadcastInDim S40x140 ![] bcast_S_S40x140 main_cst_3
  let main_v10 : IVec S40x140 1 := cmpf .olt main_v4 main_v9
  let main_v11 : IVec S40x140 1 := andi main_v8 main_v10
  let main_v12 : IVec S40x140 1 := ori main_v6 main_v11
  main_v12
-- ==== Dw.lean ====
abbrev S4x1536x5120 : Shape := ⟨3, ![4, 1536, 5120]⟩
abbrev S4x1536x17920 : Shape := ⟨3, ![4, 1536, 17920]⟩
abbrev S6144x5120 : Shape := ⟨2, ![6144, 5120]⟩
abbrev S6144x17920 : Shape := ⟨2, ![6144, 17920]⟩
abbrev S5120x17920 : Shape := ⟨2, ![5120, 17920]⟩
abbrev S6144x1024 : Shape := ⟨2, ![6144, 1024]⟩
abbrev S6144x512 : Shape := ⟨2, ![6144, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4x1536x5120, .bf16⟩
  | .hbm, ⟨1, _⟩ => ⟨S4x1536x17920, .bf16⟩
  | .hbm, ⟨2, _⟩ => ⟨S6144x5120, .bf16⟩
  | .hbm, ⟨3, _⟩ => ⟨S6144x17920, .bf16⟩
  | .hbm, ⟨4, _⟩ => ⟨S5120x17920, .f32⟩
  | .local _ .vmem, ⟨0, _⟩ => ⟨S6144x1024, .bf16⟩
  | .local _ .vmem, ⟨1, _⟩ => ⟨S6144x1024, .bf16⟩
  | .local _ .vmem, ⟨2, _⟩ => ⟨S6144x512, .bf16⟩
  | .local _ .vmem, ⟨3, _⟩ => ⟨S6144x512, .bf16⟩
  | .local _ .vmem, ⟨4, _⟩ => ⟨S1024x512, .f32⟩
  | .local _ .vmem, ⟨5, _⟩ => ⟨S1024x512, .f32⟩
  | _, _ => ⟨S4x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 35], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S6144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefDwIdeal.lean ====
abbrev S4x1536x5120 : Shape := ⟨3, ![4, 1536, 5120]⟩
abbrev S4x1536x17920 : Shape := ⟨3, ![4, 1536, 17920]⟩
abbrev S5120x17920 : Shape := ⟨2, ![5120, 17920]⟩

abbrev nBuf : Space → Nat
  | .hbm => 3
  | .vmem => 0
  | .smem => 0
  | _ => 0

abbrev bufTy : (tb : Table) → Fin (tcTables nBuf tb) → BufTy
  | .hbm, ⟨0, _⟩ => ⟨S4x1536x5120, .bf16⟩
  | .hbm, ⟨1, _⟩ => ⟨S4x1536x17920, .bf16⟩
  | .hbm, ⟨2, _⟩ => ⟨S5120x17920, .f32⟩
  | _, _ => ⟨S4x1536x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dx.lean ====
abbrev S4x1536x17920 : Shape := ⟨3, ![4, 1536, 17920]⟩
abbrev S5120x17920 : Shape := ⟨2, ![5120, 17920]⟩
abbrev S6144x17920 : Shape := ⟨2, ![6144, 17920]⟩
abbrev S6144x5120 : Shape := ⟨2, ![6144, 5120]⟩
abbrev S1024x2560 : Shape := ⟨2, ![1024, 2560]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x1536x17920, .bf16⟩
  | .hbm, ⟨1, _⟩ => ⟨S5120x17920, .bf16⟩
  | .hbm, ⟨2, _⟩ => ⟨S6144x17920, .bf16⟩
  | .hbm, ⟨3, _⟩ => ⟨S6144x5120, .bf16⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x1536x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 5, 7], ![false, false, false]⟩

def k0_cond2 (i : grid0.Coords) : BitVec 1 :=
  let arg2 : BitVec 32 := BitVec.ofNat 32 (i 2).val
  let c6_i32 : BitVec 32 := 6#32
  let v12 : BitVec 1 := Scalar.cmpi .eq arg2 c6_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDxIdeal.lean ====
abbrev S4x1536x17920 : Shape := ⟨3, ![4, 1536, 17920]⟩
abbrev S5120x17920 : Shape := ⟨2, ![5120, 17920]⟩
abbrev S4x1536x5120 : Shape := ⟨3, ![4, 1536, 5120]⟩
abbrev S6144x5120 : Shape := ⟨2, ![6144, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4x1536x17920, .bf16⟩
  | .hbm, ⟨1, _⟩ => ⟨S5120x17920, .bf16⟩
  | .hbm, ⟨2, _⟩ => ⟨S4x1536x5120, .f32⟩
  | .hbm, ⟨3, _⟩ => ⟨S4x1536x5120, .bf16⟩
  | .hbm, ⟨4, _⟩ => ⟨S6144x5120, .bf16⟩
  | _, _ => ⟨S4x1536x17920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fwd.lean ====
abbrev S4x1536x5120 : Shape := ⟨3, ![4, 1536, 5120]⟩
abbrev S5120x17920 : Shape := ⟨2, ![5120, 17920]⟩
abbrev S6144x5120 : Shape := ⟨2, ![6144, 5120]⟩
abbrev S6144x17920 : Shape := ⟨2, ![6144, 17920]⟩
abbrev S35x40x4 : Shape := ⟨3, ![35, 40, 4]⟩
abbrev S768x5120 : Shape := ⟨2, ![768, 5120]⟩
abbrev S5120x512 : Shape := ⟨2, ![5120, 512]⟩
abbrev S768x512 : Shape := ⟨2, ![768, 512]⟩
abbrev S1x40x4 : Shape := ⟨3, ![1, 40, 4]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S1x4 : Shape := ⟨2, ![1, 4]⟩
abbrev S1x1x4 : Shape := ⟨3, ![1, 1, 4]⟩
abbrev S40x35x4 : Shape := ⟨3, ![40, 35, 4]⟩
abbrev S40x140 : Shape := ⟨2, ![40, 140]⟩
abbrev S4x1536x17920 : Shape := ⟨3, ![4, 1536, 17920]⟩

abbrev nBuf : Space → Nat
  | .hbm => 10
  | .vmem => 12
  | .smem => 0
  | _ => 0

abbrev bufTy : (tb : Table) → Fin (tcTables nBuf tb) → BufTy
  | .hbm, ⟨0, _⟩ => ⟨S4x1536x5120, .bf16⟩
  | .hbm, ⟨1, _⟩ => ⟨S5120x17920, .f32⟩
  | .hbm, ⟨2, _⟩ => ⟨S6144x5120, .bf16⟩
  | .hbm, ⟨3, _⟩ => ⟨S6144x17920, .bf16⟩
  | .hbm, ⟨4, _⟩ => ⟨S5120x17920, .fp8e4m3⟩
  | .hbm, ⟨5, _⟩ => ⟨S5120x17920, .bf16⟩
  | .hbm, ⟨6, _⟩ => ⟨S35x40x4, .f32⟩
  | .hbm, ⟨7, _⟩ => ⟨S40x35x4, .f32⟩
  | .hbm, ⟨8, _⟩ => ⟨S40x140, .f32⟩
  | .hbm, ⟨9, _⟩ => ⟨S4x1536x17920, .bf16⟩
  | .local _ .vmem, ⟨0, _⟩ => ⟨S768x5120, .bf16⟩
  | .local _ .vmem, ⟨1, _⟩ => ⟨S768x5120, .bf16⟩
  | .local _ .vmem, ⟨2, _⟩ => ⟨S5120x512, .f32⟩
  | .local _ .vmem, ⟨3, _⟩ => ⟨S5120x512, .f32⟩
  | .local _ .vmem, ⟨4, _⟩ => ⟨S768x512, .bf16⟩
  | .local _ .vmem, ⟨5, _⟩ => ⟨S768x512, .bf16⟩
  | .local _ .vmem, ⟨6, _⟩ => ⟨S5120x512, .fp8e4m3⟩
  | .local _ .vmem, ⟨7, _⟩ => ⟨S5120x512, .fp8e4m3⟩
  | .local _ .vmem, ⟨8, _⟩ => ⟨S5120x512, .bf16⟩
  | .local _ .vmem, ⟨9, _⟩ => ⟨S5120x512, .bf16⟩
  | .local _ .vmem, ⟨10, _⟩ => ⟨S1x40x4, .f32⟩
  | .local _ .vmem, ⟨11, _⟩ => ⟨S1x40x4, .f32⟩
  | _, _ => ⟨S4x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![35, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c40_i32 : BitVec 32 := 40#32
  let v10 : BitVec 32 := Scalar.addi c0_i32_6 c40_i32
  let c1_i32 : BitVec 32 := 1#32
  ⟨c0_i32_6, v10, c1_i32⟩
def k0_off1 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c128_i32 : BitVec 32 := 128#32
  let v11 : BitVec 32 := Scalar.muli arg8 c128_i32
  let v12 : Index := Scalar.indexCast v11
  let c0_8 : Index := 0#32
  ![v12.toNat, 0]
def k0_off2 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c128_i32 : BitVec 32 := 128#32
  let v11 : BitVec 32 := Scalar.muli arg8 c128_i32
  let v63 : Index := Scalar.indexCast v11
  let c128 : Index := 128#32
  ![v63.toNat, 128]
def k0_off3 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c128_i32 : BitVec 32 := 128#32
  let v11 : BitVec 32 := Scalar.muli arg8 c128_i32
  let v114 : Index := Scalar.indexCast v11
  let c256 : Index := 256#32
  ![v114.toNat, 256]
def k0_off4 (k0_t1 : Fin k0_t1_loop.trips) : Fin 2 → Nat :=
  let c0_i32_6 : BitVec 32 := 0#32
  let c1_i32 : BitVec 32 := 1#32
  let arg8 : BitVec 32 := Scf.iv c0_i32_6 c1_i32 k0_t1
  let c128_i32 : BitVec 32 := 128#32
  let v11 : BitVec 32 := Scalar.muli arg8 c128_i32
  let v165 : Index := Scalar.indexCast v11
  let c384 : Index := 384#32
  ![v165.toNat, 384]
def k0_off5 (k0_t1 : Fin k0_t1_loop.trips) : Fin 3 → Nat :=
  let c0_78 : Index := 0#32
  let c0_i32_6 : BitVec 32 := 0#32
  let c1_i32 : BitVec 32 := 1#32
  let arg8 : BitVec 32 := Scf.iv c0_i32_6 c1_i32 k0_t1
  let v217 : Index := Scalar.indexCast arg8
  let c0_79 : Index := 0#32
  ![0, v217.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S768x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5120x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5120x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S5120x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x40x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefFwdIdeal.lean ====
abbrev S4x1536x5120 : Shape := ⟨3, ![4, 1536, 5120]⟩
abbrev S5120x17920 : Shape := ⟨2, ![5120, 17920]⟩
abbrev S4x1536x17920 : Shape := ⟨3, ![4, 1536, 17920]⟩
abbrev S40x140 : Shape := ⟨2, ![40, 140]⟩
abbrev S40x128x140x128 : Shape := ⟨4, ![40, 128, 140, 128]⟩
abbrev S40x1x140x1 : Shape := ⟨4, ![40, 1, 140, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x1536x5120, .bf16⟩
  | .hbm, ⟨1, _⟩ => ⟨S5120x17920, .f32⟩
  | .hbm, ⟨2, _⟩ => ⟨S4x1536x17920, .bf16⟩
  | .hbm, ⟨3, _⟩ => ⟨S5120x17920, .fp8e4m3⟩
  | .hbm, ⟨4, _⟩ => ⟨S5120x17920, .bf16⟩
  | .hbm, ⟨5, _⟩ => ⟨S40x140, .f32⟩
  | .local _ .vmem, ⟨0, _⟩ => ⟨S4x1536x5120, .bf16⟩
  | .local _ .vmem, ⟨1, _⟩ => ⟨S5120x17920, .f32⟩
  | .local _ .vmem, ⟨2, _⟩ => ⟨S4x1536x17920, .bf16⟩
  | .local _ .vmem, ⟨3, _⟩ => ⟨S5120x17920, .fp8e4m3⟩
  | .local _ .vmem, ⟨4, _⟩ => ⟨S5120x17920, .bf16⟩
  | .local _ .vmem, ⟨5, _⟩ => ⟨S40x140, .f32⟩
  | _, _ => ⟨S4x1536x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1536x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x17920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1536x17920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x17920 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x17920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x140 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Sums.lean ====
module

public import Idealize.ShloMosaic.Lib.Pipeline.Value
public import Idealize.ShloMosaic.PureOps.Ideal
public import Idealize.ShloMosaic.Lib.ValueIdxCore
public import Idealize.ShloMosaic.Lib.TwoAxisContraction
public import Mathlib.Algebra.BigOperators.Fin

/-! Sums over a range cut into equal pieces, and small facts shared by the three products. -/

@[expose] public section

noncomputable section

open scoped BigOperators

namespace Cert.Sums

open Idealize.ShloMosaic

/-- A sum over `n * b` positions is the sum over `n` pieces of `b` positions each. -/
theorem sum_pieces {M : Type*} [AddCommMonoid M] (n b N : ℕ) (hN : n * b = N) (f : ℕ → M) :
    ∑ k : Fin N, f k.val = ∑ p : Fin n × Fin b, f (b * p.1.val + p.2.val) := by
  subst hN
  rw [← Equiv.sum_comp finProdFinEquiv]
  refine Finset.sum_congr rfl fun p _ => ?_
  rw [finProdFinEquiv_apply_val, Nat.add_comm]

/-- The same with the pieces as a range of naturals and the inner sum kept apart. -/
theorem sum_pieces_range {M : Type*} [AddCommMonoid M] (n b N : ℕ) (hN : n * b = N) (f : ℕ → M) :
    ∑ k : Fin N, f k.val = ∑ s ∈ Finset.range n, ∑ k : Fin b, f (b * s + k.val) := by
  rw [sum_pieces n b N hN f, Fintype.sum_prod_type, Finset.sum_range]

/-- The zero offsets of a whole-block access. -/
theorem hz : (![0, 0] : Fin 2 → Nat) = fun _ => 0 := funext fun a => by fin_cases a <;> rfl

/-- A function of a rank-2 index read at natural coordinates, `0` outside. -/
def at2 {n0 n1 : ℕ} (x : (⟨2, ![n0, n1]⟩ : Shape).Idx → EReal) (a b : ℕ) : EReal :=
  if h : a < n0 ∧ b < n1 then x (ValueIdx.ix2 ⟨a, h.1⟩ ⟨b, h.2⟩) else 0

/-- Inside the extents `at2` is the function. -/
theorem at2_eq {n0 n1 : ℕ} (x : (⟨2, ![n0, n1]⟩ : Shape).Idx → EReal) (i : (⟨2, ![n0, n1]⟩ : Shape).Idx) (a b : ℕ)
    (ha : a = (i 0).val) (hb : b = (i 1).val) : at2 x a b = x i := by
  subst ha hb
  unfold at2
  rw [dif_pos ⟨(i 0).isLt, (i 1).isLt⟩]
  exact congrArg x (ValueIdx.eq_ix2 i).symm

/-- The same for a rank-3 index. -/
def at3 {n0 n1 n2 : ℕ} (x : (⟨3, ![n0, n1, n2]⟩ : Shape).Idx → EReal) (a b c : ℕ) : EReal :=
  if h : a < n0 ∧ b < n1 ∧ c < n2 then x (ValueIdx.ix3 ⟨a, h.1⟩ ⟨b, h.2.1⟩ ⟨c, h.2.2⟩) else 0

/-- Inside the extents `at3` is the function. -/
theorem at3_eq {n0 n1 n2 : ℕ} (x : (⟨3, ![n0, n1, n2]⟩ : Shape).Idx → EReal) (i : (⟨3, ![n0, n1, n2]⟩ : Shape).Idx)
    (a b c : ℕ) (ha : a = (i 0).val) (hb : b = (i 1).val) (hc : c = (i 2).val) : at3 x a b c = x i := by
  subst ha hb hc
  unfold at3
  rw [dif_pos ⟨(i 0).isLt, (i 1).isLt, (i 2).isLt⟩]
  exact congrArg x (ValueIdx.eq_ix3 i).symm

/-- The leading two axes `4 × 1536` joined into `6144` tokens, read at an index. -/
theorem tokens_apply {C : ℕ} (x : (⟨3, ![4, 1536, C]⟩ : Shape).Idx → EReal)
    (h : (⟨3, ![4, 1536, C]⟩ : Shape).ShapeCasts ⟨2, ![6144, C]⟩) (j : (⟨2, ![6144, C]⟩ : Shape).Idx) :
    shapeCast ⟨2, ![6144, C]⟩ x h j = at3 x ((j 0).val / 1536) ((j 0).val % 1536) (j 1).val := by
  have h0 : (j 0).val < 6144 := (j 0).isLt
  have h1 : (j 1).val < C := (j 1).isLt
  let k : (⟨3, ![4, 1536, C]⟩ : Shape).Idx :=
    ValueIdx.ix3 ⟨(j 0).val / 1536, by omega⟩ ⟨(j 0).val % 1536, by omega⟩ ⟨(j 1).val, h1⟩
  rw [at3_eq x k ((j 0).val / 1536) ((j 0).val % 1536) (j 1).val rfl rfl rfl]
  refine shapeCast_apply x h j k ?_
  rw [Shape.rowMajor_val_three, Shape.rowMajor_val_two]
  show ((j 0).val / 1536 * 1536 + (j 0).val % 1536) * C + (j 1).val = (j 0).val * C + (j 1).val
  rw [Nat.div_add_mod']

end Cert.Sums

end
-- ==== Proof.DwValue.lean ====
module

public import proofs.«01_k».proof.Proof.Gen.DwIdeal.Value
public import proofs.«01_k».proof.Proof.Gen.RefDwIdeal.Run
public import proofs.«01_k».proof.Proof.Sums
public import Idealize.ShloMosaic.PureOps.Ideal.Laws

/-! The weight gradient: each block the kernel writes is one product over all 6144 tokens of its columns of `x` and
    `g`; the reference contracts the two leading axes (4 × 1536) at once. -/

@[expose] public section

noncomputable section

open scoped BigOperators

namespace Cert.DwIdeal.Val

open Cert.DwIdeal Cert.DwIdeal.Gen Cert.Sums Idealize.ShloMosaic Idealize.ShloMosaic.TcCoe Idealize.SL.Sem
open Idealize.ShloMosaic.Pipeline (Dat)

/-- The weight gradient at an index: the sum over the tokens of the products. -/
def G (x : S4x1536x5120.Idx → EReal) (g : S4x1536x17920.Idx → EReal) : S5120x17920.Idx → EReal := fun i =>
  ∑ p : Fin 4 × Fin 1536, at3 x p.1.val p.2.val (i 0).val * at3 g p.1.val p.2.val (i 1).val

variable (m : (ℓ : Loc nD τ sig) → Buf (Elt Ideal) ℓ) (ρ : Dev nD → PrngReg)

theorem V_v0 (c : Dev nD) : V m c main_v0 = shapeCast S6144x5120 (m ((c : Thread nD τ).loc main_arg0)) shapeCasts_S4x1536x5120_S6144x5120 := by
  unfold V; after_results; rfl

theorem V_v1 (c : Dev nD) : V m c main_v1 = shapeCast S6144x17920 (m ((c : Thread nD τ).loc main_arg1)) shapeCasts_S4x1536x17920_S6144x17920 := by
  unfold V; after_results; rfl

/-- The windows' block indices over the grid: the first axis walks `x`'s column blocks, the second `g`'s. -/
theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- The point that writes block `(q0, q1)`. -/
abbrev ontoPt (q0 : Fin 5) (q1 : Fin 35) : Fin grid0.N := ⟨35 * q0.val + q1.val, lt_of_lt_of_eq (by omega) N_0.symm⟩
/-- Every block of the result is some point's. -/
theorem idx_onto : ∀ (q0 : Fin 5) (q1 : Fin 35), ∃ t : Fin cfg0.N, (cfg0.win 2).flush t = true ∧ win0_2.index t = ![q0.val, q1.val] :=
  fun q0 q1 => ⟨ontoPt q0 q1, (by decide +kernel : ∀ (q0 : Fin 5) (q1 : Fin 35), win0_2.flush (ontoPt q0 q1) = true ∧ win0_2.index (ontoPt q0 q1) = ![q0.val, q1.val]) q0 q1⟩

theorem lhs0 (i : S1024x512.Idx) (q : dot_S6144x1024_S6144x512_S1024x512_0_0_1_1_n_n.contr.Idx) :
    (dot_S6144x1024_S6144x512_S1024x512_0_0_1_1_n_n.lhsIdx i q 0).val = (q ⟨0, by decide⟩).val :=
  dot_S6144x1024_S6144x512_S1024x512_0_0_1_1_n_n.lhsIdx_val_of_single rfl i q
theorem lhs1 (i : S1024x512.Idx) (q : dot_S6144x1024_S6144x512_S1024x512_0_0_1_1_n_n.contr.Idx) :
    (dot_S6144x1024_S6144x512_S1024x512_0_0_1_1_n_n.lhsIdx i q 1).val = (i 0).val := by
  unfold DotDims.lhsIdx
  rw [dif_neg (show ¬(1 : Fin S6144x1024.rank) ∈ dot_S6144x1024_S6144x512_S1024x512_0_0_1_1_n_n.lhsBatch by decide), dif_pos (show (1 : Fin S6144x1024.rank) ∈ dot_S6144x1024_S6144x512_S1024x512_0_0_1_1_n_n.lhsNonContracting by decide)]
  rfl
theorem rhs0 (i : S1024x512.Idx) (q : dot_S6144x1024_S6144x512_S1024x512_0_0_1_1_n_n.contr.Idx) :
    (dot_S6144x1024_S6144x512_S1024x512_0_0_1_1_n_n.rhsIdx i q 0).val = (q ⟨0, by decide⟩).val :=
  dot_S6144x1024_S6144x512_S1024x512_0_0_1_1_n_n.rhsIdx_val_of_single rfl i q
theorem rhs1 (i : S1024x512.Idx) (q : dot_S6144x1024_S6144x512_S1024x512_0_0_1_1_n_n.contr.Idx) :
    (dot_S6144x1024_S6144x512_S1024x512_0_0_1_1_n_n.rhsIdx i q 1).val = (i 1).val := by
  unfold DotDims.rhsIdx
  rw [dif_neg (show ¬(1 : Fin S6144x512.rank) ∈ dot_S6144x1024_S6144x512_S1024x512_0_0_1_1_n_n.rhsBatch by decide), dif_pos (show (1 : Fin S6144x512.rank) ∈ dot_S6144x1024_S6144x512_S1024x512_0_0_1_1_n_n.rhsNonContracting by decide)]
  rfl

/-- The product of one point, at an index of its block. -/
theorem pay_apply (a : Vec Ideal S6144x1024 .bf16) (b : Vec Ideal S6144x512 .bf16) (j : S1024x512.Idx) :
    k0_pay1 (F := Ideal) a b j = ∑ k : Fin 6144, at2 a k.val (j 0).val * at2 b k.val (j 1).val := by
  unfold k0_pay1
  simp only [shapeCast_self, matmul]
  rw [Ideal.matmul_constant_zero_apply,
    ← Equiv.sum_comp (ValueIdx.contrEquiv1 dot_S6144x1024_S6144x512_S1024x512_0_0_1_1_n_n 6144 rfl rfl).symm]
  refine Finset.sum_congr rfl fun k _ => ?_
  have hk := ValueIdx.contrEquiv1_symm_val dot_S6144x1024_S6144x512_S1024x512_0_0_1_1_n_n 6144 rfl rfl k
  rw [at2_eq a _ _ _ (hk.symm.trans (lhs0 j _).symm) (lhs1 j _).symm, at2_eq b _ _ _ (hk.symm.trans (rhs0 j _).symm) (rhs1 j _).symm]

/-- `x`'s block at a point, read in `x` itself. -/
theorem iblk0 (c : Dev nD) (t : Fin cfg0.N) (k a : ℕ) (hk : k < 6144) (ha : a < 1024) :
    at2 (iblk m c 0 t : Vec Ideal S6144x1024 .bf16) k a
      = at3 (m ((c : Thread nD τ).loc main_arg0) : S4x1536x5120.Idx → EReal) (k / 1536) (k % 1536) (win0_2.index t (0 : Fin 2) * 1024 + a) := by
  obtain ⟨e0, e1, e2, e3⟩ := idx_facts t
  rw [at2_eq (n0 := 6144) (n1 := 1024) _ (ValueIdx.ix2 ⟨k, hk⟩ ⟨a, ha⟩) k a rfl rfl]
  unfold iblk
  rw [View.read_apply]
  show V m c main_v0 (((cfg0.win 0).blk t).view.emb (ValueIdx.ix2 ⟨k, hk⟩ ⟨a, ha⟩)) = _
  rw [V_v0, tokens_apply (C := 5120)]
  have h0 : (((cfg0.win 0).blk t).view.emb (ValueIdx.ix2 ⟨k, hk⟩ ⟨a, ha⟩) 0).val = win0_0.index t (0 : Fin 2) * 6144 + 1 * k := rfl
  have h1 : (((cfg0.win 0).blk t).view.emb (ValueIdx.ix2 ⟨k, hk⟩ ⟨a, ha⟩) 1).val = win0_0.index t (1 : Fin 2) * 1024 + 1 * a := rfl
  rw [h0, h1, e0, e1, Nat.zero_mul, Nat.zero_add, Nat.one_mul, Nat.one_mul]

/-- `g`'s block at a point, read in `g` itself. -/
theorem iblk1 (c : Dev nD) (t : Fin cfg0.N) (k a : ℕ) (hk : k < 6144) (ha : a < 512) :
    at2 (iblk m c 1 t : Vec Ideal S6144x512 .bf16) k a
      = at3 (m ((c : Thread nD τ).loc main_arg1) : S4x1536x17920.Idx → EReal) (k / 1536) (k % 1536) (win0_2.index t (1 : Fin 2) * 512 + a) := by
  obtain ⟨e0, e1, e2, e3⟩ := idx_facts t
  rw [at2_eq (n0 := 6144) (n1 := 512) _ (ValueIdx.ix2 ⟨k, hk⟩ ⟨a, ha⟩) k a rfl rfl]
  unfold iblk
  rw [View.read_apply]
  show V m c main_v1 (((cfg0.win 1).blk t).view.emb (ValueIdx.ix2 ⟨k, hk⟩ ⟨a, ha⟩)) = _
  rw [V_v1, tokens_apply (C := 17920)]
  have h0 : (((cfg0.win 1).blk t).view.emb (ValueIdx.ix2 ⟨k, hk⟩ ⟨a, ha⟩) 0).val = win0_1.index t (0 : Fin 2) * 6144 + 1 * k := rfl
  have h1 : (((cfg0.win 1).blk t).view.emb (ValueIdx.ix2 ⟨k, hk⟩ ⟨a, ha⟩) 1).val = win0_1.index t (1 : Fin 2) * 512 + 1 * a := rfl
  rw [h0, h1, e2, e3, Nat.zero_mul, Nat.zero_add, Nat.one_mul, Nat.one_mul]

/-- The sum over 6144 tokens is the sum over the two leading axes. -/
theorem sum_tokens (f : ℕ → ℕ → EReal) :
    ∑ k : Fin 6144, f (k.val / 1536) (k.val % 1536) = ∑ p : Fin 4 × Fin 1536, f p.1.val p.2.val := by
  rw [sum_pieces 4 1536 6144 (by norm_num) (fun k => f (k / 1536) (k % 1536))]
  refine Finset.sum_congr rfl fun p _ => ?_
  have h := p.2.isLt
  show f ((1536 * p.1.val + p.2.val) / 1536) ((1536 * p.1.val + p.2.val) % 1536) = _
  rw [show (1536 * p.1.val + p.2.val) / 1536 = p.1.val by omega, show (1536 * p.1.val + p.2.val) % 1536 = p.2.val by omega]

/-- What a point writes back is its block of the weight gradient. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1)) : Buf (Elt Ideal) ((c : Thread nD τ).loc main_v2)) := by
  rw [Value.flushed2]
  unfold out0_2
  rw [View.canon_unit_zero hz]
  funext y
  rw [View.read_apply]
  show k0_pay1 (F := Ideal) (View.ld (iblk m c 0 t) r0_0) (View.ld (iblk m c 1 t) r0_1) ((cfg0.win 2).xinj (grid0.coords t) y) = _
  rw [View.ld_unit_zero (S := S6144x1024) hz, View.ld_unit_zero (S := S6144x512) hz, pay_apply]
  have hy0 : (y 0).val < 1024 := (y 0).isLt
  have hy1 : (y 1).val < 512 := (y 1).isLt
  have hb0 : (((cfg0.win 2).blk t).view.emb y 0).val = win0_2.index t (0 : Fin 2) * 1024 + (y 0).val :=
    (show _ = win0_2.index t (0 : Fin 2) * 1024 + 1 * (y 0).val from rfl).trans (by omega)
  have hb1 : (((cfg0.win 2).blk t).view.emb y 1).val = win0_2.index t (1 : Fin 2) * 512 + (y 1).val :=
    (show _ = win0_2.index t (1 : Fin 2) * 512 + 1 * (y 1).val from rfl).trans (by omega)
  show ∑ k : Fin 6144, at2 (iblk m c 0 t : Vec Ideal S6144x1024 .bf16) k.val (y 0).val * at2 (iblk m c 1 t : Vec Ideal S6144x512 .bf16) k.val (y 1).val
    = G _ _ (((cfg0.win 2).blk t).view.emb y)
  unfold G
  rw [hb0, hb1, ← sum_tokens (fun b s => at3 _ b s _ * at3 _ b s _)]
  refine Finset.sum_congr rfl fun k _ => ?_
  rw [iblk0 m c t k.val _ k.isLt hy0, iblk1 m c t k.val _ k.isLt hy1]

/-- An index is in a point's block when each coordinate is in the block's range. -/
theorem mem_blk (t : Fin cfg0.N) (i : S5120x17920.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- The result array after the run is the weight gradient. -/
theorem final (c : Dev nD) : (dats m 0 c).arrAt 2 cfg0.N
    = (G (m ((c : Thread nD τ).loc main_arg0)) (m ((c : Thread nD τ).loc main_arg1)) : Buf (Elt Ideal) ((c : Thread nD τ).loc main_v2)) :=
  (dats m 0 c).arrAt_eq_of_cover 2 _ (fun t _ => flushed_eq m c t) fun i => by
    have h0 : (i 0).val < 5120 := (i 0).isLt
    have h1 : (i 1).val < 17920 := (i 1).isLt
    obtain ⟨t, hf, ht⟩ := idx_onto ⟨(i 0).val / 1024, by omega⟩ ⟨(i 1).val / 512, by omega⟩
    have q0 : win0_2.index t (0 : Fin 2) = (i 0).val / 1024 := congrFun ht 0
    have q1 : win0_2.index t (1 : Fin 2) = (i 1).val / 512 := congrFun ht 1
    refine ⟨t, hf, ?_⟩
    rw [mem_blk]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 512 ≤ (i 1).val ∧ (i 1).val < win0_2.index t (1 : Fin 2) * 512 + 512; omega

end Cert.DwIdeal.Val

namespace Cert.RefDwIdeal.Val

open Cert.RefDwIdeal Cert.RefDwIdeal.Gen Cert.Sums Idealize.ShloMosaic Idealize.ShloMosaic.TcCoe

/-- The reference's contraction over the two leading axes is the weight gradient. -/
theorem dot_eq (x : Vec Ideal S4x1536x5120 .bf16) (g : Vec Ideal S4x1536x17920 .bf16) :
    Host.dotGeneral (F := Ideal) (φ₁ := .bf16) (φ₂ := .bf16) dot_S4x1536x5120_S4x1536x17920_S5120x17920_01_01_2_2_n_n none x g = Cert.DwIdeal.Val.G x g := by
  funext i
  simp only [Host.dotGeneral]
  rw [Ideal.dotGeneral_apply, ← Equiv.sum_comp (ValueIdx.contrEquiv2 dot_S4x1536x5120_S4x1536x17920_S5120x17920_01_01_2_2_n_n 4 1536 rfl rfl rfl).symm]
  unfold Cert.DwIdeal.Val.G
  refine Finset.sum_congr rfl fun p _ => ?_
  have h0 := ValueIdx.contrEquiv2_symm_val0 dot_S4x1536x5120_S4x1536x17920_S5120x17920_01_01_2_2_n_n 4 1536 rfl rfl rfl p
  have h1 := ValueIdx.contrEquiv2_symm_val1 dot_S4x1536x5120_S4x1536x17920_S5120x17920_01_01_2_2_n_n 4 1536 rfl rfl rfl p
  generalize (ValueIdx.contrEquiv2 dot_S4x1536x5120_S4x1536x17920_S5120x17920_01_01_2_2_n_n 4 1536 rfl rfl rfl).symm p = q at h0 h1
  rw [at3_eq x (DotDims.lhsIdx dot_S4x1536x5120_S4x1536x17920_S5120x17920_01_01_2_2_n_n i q) _ _ _ (by rw [← h0]; simp [DotDims.lhsIdx, dot_S4x1536x5120_S4x1536x17920_S5120x17920_01_01_2_2_n_n]; rfl) (by rw [← h1]; simp [DotDims.lhsIdx, dot_S4x1536x5120_S4x1536x17920_S5120x17920_01_01_2_2_n_n]; rfl) (by simp [DotDims.lhsIdx, dot_S4x1536x5120_S4x1536x17920_S5120x17920_01_01_2_2_n_n]; rfl),
    at3_eq g (DotDims.rhsIdx dot_S4x1536x5120_S4x1536x17920_S5120x17920_01_01_2_2_n_n i q) _ _ _ (by rw [← h0]; simp [DotDims.rhsIdx, dot_S4x1536x5120_S4x1536x17920_S5120x17920_01_01_2_2_n_n]; rfl) (by rw [← h1]; simp [DotDims.rhsIdx, dot_S4x1536x5120_S4x1536x17920_S5120x17920_01_01_2_2_n_n]; rfl) (by simp [DotDims.rhsIdx, dot_S4x1536x5120_S4x1536x17920_S5120x17920_01_01_2_2_n_n]; rfl)]

end Cert.RefDwIdeal.Val

end
-- ==== Proof.DxValue.lean ====
module

public import proofs.«01_k».proof.Proof.Gen.DxIdeal.Value
public import proofs.«01_k».proof.Proof.Gen.RefDxIdeal.Read
public import proofs.«01_k».proof.Proof.Sums
public import Idealize.ShloMosaic.PureOps.Ideal.Laws

/-! The input gradient: each block is accumulated over seven pieces of 2560 columns of `g` and of the rounded weight; the
    reference sums over all 17920 columns at once. -/

@[expose] public section

noncomputable section

open scoped BigOperators

namespace Cert.DxIdeal.Val

open Cert.DxIdeal Cert.DxIdeal.Gen Cert.Sums Idealize.ShloMosaic Idealize.ShloMosaic.TcCoe Idealize.SL.Sem
open Idealize.ShloMosaic.Pipeline (Dat)

/-- One product of the input gradient: token `t`, input column `d`, output column `k`. -/
def term (g : S4x1536x17920.Idx → EReal) (w : S5120x17920.Idx → EReal) (t d k : ℕ) : EReal :=
  at3 g (t / 1536) (t % 1536) k * at2 w d k

/-- The input gradient at an index: the sum over the output columns. -/
def G (g : S4x1536x17920.Idx → EReal) (w : S5120x17920.Idx → EReal) : S6144x5120.Idx → EReal := fun i =>
  ∑ k : Fin 17920, term g w (i 0).val (i 1).val k.val

/-- The part of it one piece of 2560 columns gives. -/
def part (g : S4x1536x17920.Idx → EReal) (w : S5120x17920.Idx → EReal) (t d s : ℕ) : EReal :=
  ∑ k : Fin 2560, term g w t d (2560 * s + k.val)

variable (m : (ℓ : Loc nD τ sig) → Buf (Elt Ideal) ℓ) (ρ : Dev nD → PrngReg)

theorem V_v0 (c : Dev nD) : V m c main_v0 = shapeCast S6144x17920 (m ((c : Thread nD τ).loc main_arg0)) shapeCasts_S4x1536x17920_S6144x17920 := by
  unfold V; after_results; rfl

/-- The windows' block indices over the grid. -/
theorem idx_facts : ∀ t : Fin cfg0.N, win0_0.index t (0 : Fin 2) = t.val / 35 ∧ win0_0.index t (1 : Fin 2) = t.val % 7
    ∧ win0_1.index t (0 : Fin 2) = t.val / 7 % 5 ∧ win0_1.index t (1 : Fin 2) = t.val % 7
    ∧ win0_2.index t (0 : Fin 2) = t.val / 35 ∧ win0_2.index t (1 : Fin 2) = t.val / 7 % 5 :=
  (by decide +kernel : ∀ t : Fin grid0.N, _)

/-- The point that writes block `(q0, q1)`. -/
abbrev ontoPt (q0 : Fin 6) (q1 : Fin 5) : Fin grid0.N := ⟨35 * q0.val + 7 * q1.val + 6, lt_of_lt_of_eq (by omega) N_0.symm⟩

theorem lhs0 (i : S1024x1024.Idx) (q : dot_S1024x2560_S1024x2560_S1024x1024_1_1_0_0_n_n.contr.Idx) :
    (dot_S1024x2560_S1024x2560_S1024x1024_1_1_0_0_n_n.lhsIdx i q 0).val = (i 0).val := by
  unfold DotDims.lhsIdx
  rw [dif_neg (show ¬(0 : Fin S1024x2560.rank) ∈ dot_S1024x2560_S1024x2560_S1024x1024_1_1_0_0_n_n.lhsBatch by decide), dif_pos (show (0 : Fin S1024x2560.rank) ∈ dot_S1024x2560_S1024x2560_S1024x1024_1_1_0_0_n_n.lhsNonContracting by decide)]
  rfl
theorem lhs1 (i : S1024x1024.Idx) (q : dot_S1024x2560_S1024x2560_S1024x1024_1_1_0_0_n_n.contr.Idx) :
    (dot_S1024x2560_S1024x2560_S1024x1024_1_1_0_0_n_n.lhsIdx i q 1).val = (q ⟨0, by decide⟩).val :=
  dot_S1024x2560_S1024x2560_S1024x1024_1_1_0_0_n_n.lhsIdx_val_of_single rfl i q
theorem rhs0 (i : S1024x1024.Idx) (q : dot_S1024x2560_S1024x2560_S1024x1024_1_1_0_0_n_n.contr.Idx) :
    (dot_S1024x2560_S1024x2560_S1024x1024_1_1_0_0_n_n.rhsIdx i q 0).val = (i 1).val := by
  unfold DotDims.rhsIdx
  rw [dif_neg (show ¬(0 : Fin S1024x2560.rank) ∈ dot_S1024x2560_S1024x2560_S1024x1024_1_1_0_0_n_n.rhsBatch by decide), dif_pos (show (0 : Fin S1024x2560.rank) ∈ dot_S1024x2560_S1024x2560_S1024x1024_1_1_0_0_n_n.rhsNonContracting by decide)]
  rfl
theorem rhs1 (i : S1024x1024.Idx) (q : dot_S1024x2560_S1024x2560_S1024x1024_1_1_0_0_n_n.contr.Idx) :
    (dot_S1024x2560_S1024x2560_S1024x1024_1_1_0_0_n_n.rhsIdx i q 1).val = (q ⟨0, by decide⟩).val :=
  dot_S1024x2560_S1024x2560_S1024x1024_1_1_0_0_n_n.rhsIdx_val_of_single rfl i q

/-- The product of one point added to what the accumulator held, at an index. -/
theorem pay2_apply (acc : Vec Ideal S1024x1024 .f32) (a b : Vec Ideal S1024x2560 .bf16) (j : S1024x1024.Idx) :
    k0_pay2 (F := Ideal) acc a b j = acc j + ∑ k : Fin 2560, at2 a (j 0).val k.val * at2 b (j 1).val k.val := by
  unfold k0_pay2
  simp only [shapeCast_self, matmul]
  show acc j + _ = _
  refine congrArg (acc j + ·) ?_
  rw [Ideal.matmul_constant_zero_apply,
    ← Equiv.sum_comp (ValueIdx.contrEquiv1 dot_S1024x2560_S1024x2560_S1024x1024_1_1_0_0_n_n 2560 rfl rfl).symm]
  refine Finset.sum_congr rfl fun k _ => ?_
  have hk := ValueIdx.contrEquiv1_symm_val dot_S1024x2560_S1024x2560_S1024x1024_1_1_0_0_n_n 2560 rfl rfl k
  rw [at2_eq a _ _ _ (lhs0 j _).symm (hk.symm.trans (lhs1 j _).symm), at2_eq b _ _ _ (rhs0 j _).symm (hk.symm.trans (rhs1 j _).symm)]

/-- The reset leaves zero. -/
theorem pay1_apply (j : S1024x1024.Idx) : k0_pay1 (F := Ideal) j = 0 := by
  unfold k0_pay1
  simp only [shapeCast_self]
  exact Ideal.ofBits_zero_f32

/-- The first point of a run leaves the product added to zero. -/
theorem sout_A (c : Dev nD) (i : grid0.Coords) (a3 : Memref sig .tc .vmem S1024x2560 .bf16) (h3 : a3.IsWhole)
    (a4 : Memref sig .tc .vmem S1024x2560 .bf16) (h4 : a4.IsWhole) (a5 : Memref sig .tc .vmem S1024x1024 .bf16) (h5 : a5.IsWhole)
    (a6 : Memref sig .tc .vmem S1024x1024 .f32) (h6 : a6.IsWhole)
    (hc0 : cond0_0 i) (hc1 : ¬cond0_1 i) (x y : Vec Ideal S1024x2560 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, h6.read_unread, View.ld_unit_zero (S := S1024x2560) hz, View.ld_unit_zero (S := S1024x1024) hz, shapeCast_self]

/-- A middle point leaves the product added to what the point before left. -/
theorem sout_B (c : Dev nD) (i : grid0.Coords) (a3 : Memref sig .tc .vmem S1024x2560 .bf16) (h3 : a3.IsWhole)
    (a4 : Memref sig .tc .vmem S1024x2560 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : ¬cond0_1 i) (x y : Vec Ideal S1024x2560 .bf16) (acc : Vec Ideal S1024x1024 .f32) :
    sout0_B_0 c i a3 h3 a4 h4 a5 h5 a6 h6 hc0 hc1 x y acc = k0_pay2 acc x y := by
  unfold sout0_B_0
  rw [View.read_writes_eq_canon _ _ _ (scover0_B_0 c i a3 h3 a4 h4 a5 h5 a6 h6 hc0 hc1 x y acc)]
  unfold kernelRun0_B
  dsimp only
  rw [View.canon_unit_zero hz]
  simp only [View.readAt_eq_ld, h3.read_unread, h4.read_unread, h6.read_unread, View.ld_unit_zero (S := S1024x2560) hz, View.ld_unit_zero (S := S1024x1024) hz, shapeCast_self]

/-- The last point of a run writes out the accumulator with its own product added. -/
theorem out_C (c : Dev nD) (i : grid0.Coords) (a3 : Memref sig .tc .vmem S1024x2560 .bf16) (h3 : a3.IsWhole)
    (a4 : Memref sig .tc .vmem S1024x2560 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (x y : Vec Ideal S1024x2560 .bf16) (acc : Vec Ideal S1024x1024 .f32) :
    out0_C_2 c i a3 h3 a4 h4 a5 h5 a6 h6 hc0 hc1 x y acc = k0_pay3 (k0_pay2 acc x y) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2560) hz, View.ld_unit_zero (S := S1024x1024) hz, shapeCast_self]

/-- `g`'s block at a point, read in `g` itself. -/
theorem iblk0 (c : Dev nD) (t : Fin cfg0.N) (a k : ℕ) (ha : a < 1024) (hk : k < 2560) :
    at2 (iblk m c 0 t : Vec Ideal S1024x2560 .bf16) a k
      = at3 (m ((c : Thread nD τ).loc main_arg0) : S4x1536x17920.Idx → EReal) ((t.val / 35 * 1024 + a) / 1536) ((t.val / 35 * 1024 + a) % 1536) (2560 * (t.val % 7) + k) := by
  obtain ⟨e0, e1, e2, e3, e4, e5⟩ := idx_facts t
  rw [at2_eq (n0 := 1024) (n1 := 2560) _ (ValueIdx.ix2 ⟨a, ha⟩ ⟨k, hk⟩) a k rfl rfl]
  unfold iblk
  rw [View.read_apply]
  show V m c main_v0 (((cfg0.win 0).blk t).view.emb (ValueIdx.ix2 ⟨a, ha⟩ ⟨k, hk⟩)) = _
  rw [V_v0, tokens_apply (C := 17920)]
  have h0 : (((cfg0.win 0).blk t).view.emb (ValueIdx.ix2 ⟨a, ha⟩ ⟨k, hk⟩) 0).val = win0_0.index t (0 : Fin 2) * 1024 + 1 * a := rfl
  have h1 : (((cfg0.win 0).blk t).view.emb (ValueIdx.ix2 ⟨a, ha⟩ ⟨k, hk⟩) 1).val = win0_0.index t (1 : Fin 2) * 2560 + 1 * k := rfl
  rw [h0, h1, e0, e1, Nat.one_mul, Nat.one_mul, Nat.mul_comm (t.val % 7) 2560]

/-- The rounded weight's block at a point, read in the weight itself. -/
theorem iblk1 (c : Dev nD) (t : Fin cfg0.N) (a k : ℕ) (ha : a < 1024) (hk : k < 2560) :
    at2 (iblk m c 1 t : Vec Ideal S1024x2560 .bf16) a k
      = at2 (m ((c : Thread nD τ).loc main_arg1) : S5120x17920.Idx → EReal) (t.val / 7 % 5 * 1024 + a) (2560 * (t.val % 7) + k) := by
  obtain ⟨e0, e1, e2, e3, e4, e5⟩ := idx_facts t
  rw [at2_eq (n0 := 1024) (n1 := 2560) _ (ValueIdx.ix2 ⟨a, ha⟩ ⟨k, hk⟩) a k rfl rfl]
  unfold iblk
  rw [View.read_apply]
  show V m c main_arg1 (((cfg0.win 1).blk t).view.emb (ValueIdx.ix2 ⟨a, ha⟩ ⟨k, hk⟩)) = _
  rw [V_main_arg1]
  have h0 : (((cfg0.win 1).blk t).view.emb (ValueIdx.ix2 ⟨a, ha⟩ ⟨k, hk⟩) 0).val = win0_1.index t (0 : Fin 2) * 1024 + 1 * a := rfl
  have h1 : (((cfg0.win 1).blk t).view.emb (ValueIdx.ix2 ⟨a, ha⟩ ⟨k, hk⟩) 1).val = win0_1.index t (1 : Fin 2) * 2560 + 1 * k := rfl
  refine (at2_eq _ _ _ _ ?_ ?_).symm
  · rw [h0, e2, Nat.one_mul]
  · rw [h1, e3, Nat.one_mul, Nat.mul_comm]

/-- What a point adds to the accumulator. -/
theorem step (c : Dev nD) (t : Fin cfg0.N) (acc : Vec Ideal S1024x1024 .f32) (j : S1024x1024.Idx) :
    k0_pay2 (F := Ideal) acc (iblk m c 0 t) (iblk m c 1 t) j = acc j + part (m ((c : Thread nD τ).loc main_arg0)) (m ((c : Thread nD τ).loc main_arg1))
      (t.val / 35 * 1024 + (j 0).val) (t.val / 7 % 5 * 1024 + (j 1).val) (t.val % 7) := by
  rw [pay2_apply]
  refine congrArg (acc j + ·) (Finset.sum_congr rfl fun k _ => ?_)
  rw [iblk0 m c t _ k.val (j 0).isLt k.isLt, iblk1 m c t _ k.val (j 1).isLt k.isLt]
  rfl

/-- The accumulator before a run's last point: the sum of the parts so far. -/
theorem acc_eq (c : Dev nD) (q : ℕ) (j : S1024x1024.Idx) : ∀ (s : ℕ) (_ : s < 6) (h : 7 * q + s < cfg0.N),
    (outsAt0 m c (7 * q + s) h).2 j = ∑ r ∈ Finset.range (s + 1), part (m ((c : Thread nD τ).loc main_arg0)) (m ((c : Thread nD τ).loc main_arg1))
      (q / 5 * 1024 + (j 0).val) (q % 5 * 1024 + (j 1).val) r
  | 0, _, h => by
    rw [outsAt0_A m c ⟨7 * q + 0, h⟩ (by show (7 * q + 0) % 7 = 0; omega) (by show ¬(7 * q + 0) % 7 = 6; omega)]
    dsimp only
    rw [sout_A, step, pay1_apply, zero_add, Finset.sum_range_one]
    show part _ _ ((7 * q + 0) / 35 * 1024 + _) ((7 * q + 0) / 7 % 5 * 1024 + _) ((7 * q + 0) % 7) = _
    rw [show (7 * q + 0) / 35 = q / 5 by omega, show (7 * q + 0) / 7 = q by omega, show (7 * q + 0) % 7 = 0 by omega]
  | s + 1, hs, h => by
    rw [outsAt0_B m c ⟨7 * q + (s + 1), h⟩ (by show ¬(7 * q + (s + 1)) % 7 = 0; omega) (by show ¬(7 * q + (s + 1)) % 7 = 6; omega)]
    dsimp only
    rw [sout_B, step, Finset.sum_range_succ]
    show (outsAt0 m c (7 * q + s) _).2 j + part _ _ ((7 * q + (s + 1)) / 35 * 1024 + _) ((7 * q + (s + 1)) / 7 % 5 * 1024 + _) ((7 * q + (s + 1)) % 7) = _
    rw [acc_eq c q j s (by omega), show (7 * q + (s + 1)) / 35 = q / 5 by omega, show (7 * q + (s + 1)) / 7 = q by omega, show (7 * q + (s + 1)) % 7 = s + 1 by omega]

/-- The seven parts are the whole sum. -/
theorem sum_parts (g : S4x1536x17920.Idx → EReal) (w : S5120x17920.Idx → EReal) (t d : ℕ) :
    ∑ r ∈ Finset.range 7, part g w t d r = ∑ k : Fin 17920, term g w t d k.val :=
  (sum_pieces_range 7 2560 17920 (by norm_num) (term g w t d)).symm

/-- What a run's last point leaves in the output's buffer. -/
theorem out_last (c : Dev nD) (t : Fin cfg0.N) (h6 : t.val % 7 = 6) (j : S1024x1024.Idx) :
    (outsAt0 m c t.val t.isLt).1 j = ∑ k : Fin 17920, term (m ((c : Thread nD τ).loc main_arg0)) (m ((c : Thread nD τ).loc main_arg1))
      (t.val / 35 * 1024 + (j 0).val) (t.val / 7 % 5 * 1024 + (j 1).val) k.val := by
  rw [outsAt0_C m c t (by omega) h6]
  dsimp only
  rw [out_C]
  show k0_pay2 (F := Ideal) _ _ _ j = _
  rw [step, ← sum_parts, Finset.sum_range_succ]
  have e : t.val - 1 = 7 * (t.val / 7) + 5 := by omega
  have key : ∀ (n : ℕ) (h : n < cfg0.N), n = 7 * (t.val / 7) + 5 → (outsAt0 m c n h).2 j = ∑ r ∈ Finset.range 6, part (m ((c : Thread nD τ).loc main_arg0)) (m ((c : Thread nD τ).loc main_arg1))
      (t.val / 35 * 1024 + (j 0).val) (t.val / 7 % 5 * 1024 + (j 1).val) r := by
    intro n h hn
    subst hn
    rw [acc_eq m c _ j 5 (by omega), show t.val / 7 / 5 = t.val / 35 by omega]
  rw [key _ _ e, h6]

/-- What a run's last point writes back is its block of the input gradient. -/
theorem flushed_eq (c : Dev nD) (t : Fin cfg0.N) (hf : (cfg0.win 2).flush t = true) :
    (dats m 0 c).flushed 2 t = ((cfg0.win 2).blk t).view.read (Elt Ideal)
      (G (m ((c : Thread nD τ).loc main_arg0)) (m ((c : Thread nD τ).loc main_arg1)) : Buf (Elt Ideal) ((c : Thread nD τ).loc main_v1)) := by
  have h6 : t.val % 7 = 6 := (flush0_2 t).mp hf
  obtain ⟨e0, e1, e2, e3, e4, e5⟩ := idx_facts t
  rw [Value.flushed2]
  have key := out_last m c t h6
  generalize (outsAt0 m c t.val t.isLt).1 = o at key ⊢
  funext y
  rw [View.read_apply]
  refine (key _).trans ?_
  have hb0 : (((cfg0.win 2).blk t).view.emb y 0).val = t.val / 35 * 1024 + (y 0).val :=
    (show _ = win0_2.index t (0 : Fin 2) * 1024 + 1 * (y 0).val from rfl).trans (by rw [e4, Nat.one_mul])
  have hb1 : (((cfg0.win 2).blk t).view.emb y 1).val = t.val / 7 % 5 * 1024 + (y 1).val :=
    (show _ = win0_2.index t (1 : Fin 2) * 1024 + 1 * (y 1).val from rfl).trans (by rw [e5, Nat.one_mul])
  have hx0 : (((cfg0.win 2).xinj (grid0.coords t) y) 0).val = (y 0).val := rfl
  have hx1 : (((cfg0.win 2).xinj (grid0.coords t) y) 1).val = (y 1).val := rfl
  unfold G
  rw [hb0, hb1]
  refine Eq.trans ?_ (cast_eq rfl _).symm
  refine Finset.sum_congr rfl fun k _ => ?_
  rw [hx0, hx1]

/-- An index is in a point's block when each coordinate is in the block's range. -/
theorem mem_blk (t : Fin cfg0.N) (i : S6144x5120.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The result array after the run is the input gradient. -/
theorem final (c : Dev nD) : (dats m 0 c).arrAt 2 cfg0.N
    = (G (m ((c : Thread nD τ).loc main_arg0)) (m ((c : Thread nD τ).loc main_arg1)) : Buf (Elt Ideal) ((c : Thread nD τ).loc main_v1)) :=
  (dats m 0 c).arrAt_eq_of_cover 2 _ (flushed_eq m c) fun i => by
    have h0 : (i 0).val < 6144 := (i 0).isLt
    have h1 : (i 1).val < 5120 := (i 1).isLt
    let t : Fin cfg0.N := ontoPt ⟨(i 0).val / 1024, by omega⟩ ⟨(i 1).val / 1024, by omega⟩
    have ht : t.val = 35 * ((i 0).val / 1024) + 7 * ((i 1).val / 1024) + 6 := rfl
    obtain ⟨e0, e1, e2, e3, e4, e5⟩ := idx_facts t
    refine ⟨t, (flush0_2 t).mpr (by omega), ?_⟩
    rw [mem_blk]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

end Cert.DxIdeal.Val

namespace Cert.RefDxIdeal.Val

open Cert.RefDxIdeal Cert.RefDxIdeal.Gen Cert.RefDxIdeal.Read Cert.Sums Idealize.ShloMosaic Idealize.ShloMosaic.TcCoe

/-- The reference's contraction over the output columns, its tokens joined, is the input gradient. -/
theorem ref_eq (g : Vec Ideal S4x1536x17920 .bf16) (w : Vec Ideal S5120x17920 .bf16) :
    val_main_v2 (F := Ideal) g w = Cert.DxIdeal.Val.G g w := by
  funext i
  have h0 : (i 0).val < 6144 := (i 0).isLt
  have h1 : (i 1).val < 5120 := (i 1).isLt
  rw [val_main_v2_apply, val_main_v1_apply]
  show val_main_v0 (F := Ideal) g w (idx_main_v2 i) = _
  rw [val_main_v0_apply]
  unfold Cert.DxIdeal.Val.G Cert.DxIdeal.Val.term
  refine Finset.sum_congr rfl fun k _ => ?_
  rw [at3_eq g (lidx_main_v0 (idx_main_v2 i) k) ((i 0).val / 1536) ((i 0).val % 1536) k.val
      (by show (i 0).val / 1536 = ((i 0).val * 5120 + (i 1).val) / 7864320; omega)
      (by show (i 0).val % 1536 = ((i 0).val * 5120 + (i 1).val) / 5120 % 1536; omega) rfl,
    at2_eq w (ridx_main_v0 (idx_main_v2 i) k) (i 1).val k.val
      (by show (i 1).val = ((i 0).val * 5120 + (i 1).val) % 5120; omega) rfl]

end Cert.RefDxIdeal.Val

end
-- ==== Proof.FwdRuns.lean ====
module

public import proofs.«01_k».proof.Proof.Gen.FwdIdeal.Frame
public import proofs.«01_k».proof.Proof.Gen.FwdIdeal.Skeleton
public import proofs.«01_k».proof.Proof.Gen.FwdIdeal.Loops
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! What the runs of the forward kernel's body share: the body's branch condition in closed form, and where the output windows are idle. -/

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 280 := Nat.lt_of_lt_of_eq t.isLt N_0
    have e0 : (grid0.coords t 0).val = t.val / 8 % 35 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x8080808080808080808080808080808080808080808080808080808080808080808080 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → cfg0.idle 3 (grid0.coords t) = false := by decide +kernel
/-- At the points of case B output 3 is idle: the body stores nothing into it. -/
theorem idleAt0_3_B : ∀ t : Fin cfg0.N, ¬cond0_0 (grid0.coords t) → cfg0.idle 3 (grid0.coords t) = true := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → cfg0.fresh 3 t.val = false := by
  intro t; rw [fresh0_3_eq t]; revert t; decide +kernel
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8080808080808080808080808080808080808080808080808080808080808080808080 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → cfg0.idle 4 (grid0.coords t) = false := by decide +kernel
/-- At the points of case B output 4 is idle: the body stores nothing into it. -/
theorem idleAt0_4_B : ∀ t : Fin cfg0.N, ¬cond0_0 (grid0.coords t) → cfg0.idle 4 (grid0.coords t) = true := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cfg0.fresh 4 t.val = false := by
  intro t; rw [fresh0_4_eq t]; revert t; decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x8080808080808080808080808080808080808080808080808080808080808080808080 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B output 5 is idle: the body stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel

/-! ## The kernel body on any staging memrefs: a subtype the run finds -/

/-- One staging buffer of output window 2, through which its contents are stated (`View.read_writes_of_cover`: the
    choice does not matter). -/
abbrev VO0_2 : View sig .tc .vmem S768x512 .bf16 := (Memref.whole cc0_stg2_0 : Memref sig .tc .vmem S768x512 .bf16).view
/-- One staging buffer of output window 3, through which its contents are stated (`View.read_writes_of_cover`: the
    choice does not matter). -/
abbrev VO0_3 : View sig .tc .vmem S5120x512 .fp8e4m3 := (Memref.whole cc0_stg3_0 : Memref sig .tc .vmem S5120x512 .fp8e4m3).view
/-- One staging buffer of output window 4, through which its contents are stated (`View.read_writes_of_cover`: the
    choice does not matter). -/
abbrev VO0_4 : View sig .tc .vmem S5120x512 .bf16 := (Memref.whole cc0_stg4_0 : Memref sig .tc .vmem S5120x512 .bf16).view
/-- One staging buffer of output window 5, through which its contents are stated (`View.read_writes_of_cover`: the
    choice does not matter). -/
abbrev VO0_5 : View sig .tc .vmem S1x40x4 .f32 := (Memref.whole cc0_stg5_0 : Memref sig .tc .vmem S1x40x4 .f32).view
/-- Each window's current staging memref at point `t`, spelled as the pipeline passes it (`bodyAt0`), and its wholeness. -/
abbrev ms0_0 (t : Fin cfg0.N) : Memref sig .tc .vmem S768x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5120x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x40x4 .f32 := win0_5.stage (cfg0.slots t 5)
abbrev hs0_5 (t : Fin cfg0.N) : (ms0_5 t).IsWhole := hstage0_5 ((cfg0.slots t 5).cast nbuf0_5)

end Cert.FwdIdeal.Gen

end
-- ==== Proof.FwdRunA.lean ====
module

public import proofs.«01_k».proof.Proof.FwdRuns

/-! The body's run at the points where it quantises the weight block (first row block of x). -/

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 8, … 272: 35 of 280), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) :
    Σ' (L2 : List (View.Piece (Elt F) S768x512 .bf16)), Σ' (L3 : List (View.Piece (Elt F) S5120x512 .fp8e4m3)), Σ' (L4 : List (View.Piece (Elt F) S5120x512 .bf16)), { L5 : List (View.Piece (Elt F) S1x40x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_qfwd i arg2 harg2 arg3 harg3 arg4 harg4 arg5 harg5 arg6 harg6 arg7 harg7) K } := by
  refine ⟨?_, ?_, ?_, ?_, fun E K => ?run⟩
  case run =>
    simp only [cc0_qfwd_eq_skeleton]; unfold cc0_qfwd_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    have hrd0 : ∀ (𝒱 : Variants) (c : Dev nD) (bd : Option 𝒱.V) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (k0_h1 : k0_cond1 i = 1#1) (X_arg3 : BufTy.Contents (Elt F) arg3.view.ty) (hrdF : BufTy.Contents (Elt F) arg6.view.ty) (hrdB : LoadRect S5120x512), arg6.view.readAt (Elt F) hrdB (arg6.view.writes (Elt F) hrdF (pb_k0_t1 (F := F) 𝒱 c bd i arg2 harg2 arg3 harg3 arg4 harg4 arg5 harg5 arg6 harg6 arg7 harg7 k0_h1 X_arg3 (Scf.trips k0_t1_loop.lb k0_t1_loop.ub k0_t1_loop.st)).2.1) = arg6.view.readCov (pb_k0_t1 (F := F) 𝒱 c bd i arg2 harg2 arg3 harg3 arg4 harg4 arg5 harg5 arg6 harg6 arg7 harg7 k0_h1 X_arg3 (Scf.trips k0_t1_loop.lb k0_t1_loop.ub k0_t1_loop.st)).2.1 hrdB := fun 𝒱 c bd i arg2 harg2 arg3 harg3 arg4 harg4 arg5 harg5 arg6 harg6 arg7 harg7 k0_h1 X_arg3 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 k0_h1 X_arg3 (Scf.trips k0_t1_loop.lb k0_t1_loop.ub k0_t1_loop.st)).2.1 S128x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.FwdIdeal.Gen

end
-- ==== Proof.FwdRunB.lean ====
module

public import proofs.«01_k».proof.Proof.FwdRunA

/-! The body's run at the other points, where it only multiplies by the block already quantised. -/

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 279: 245 of 280), WITH the
    proof that on whole staging memrefs — the inputs' at their contents, the outputs it reads before covering (3, 4, 5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) :
    Σ' (L2 : List (View.Piece (Elt F) S768x512 .bf16)), Σ' (L3 : List (View.Piece (Elt F) S5120x512 .fp8e4m3)), Σ' (L4 : List (View.Piece (Elt F) S5120x512 .bf16)), { L5 : List (View.Piece (Elt F) S1x40x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xo3 ∗ owns (c : Thread nD τ) arg6 fullShare xo4 ∗ owns (c : Thread nD τ) arg7 fullShare xo5) -∗ K ⟨⟩))
          ⊢ wp frame (wpE (defs₀ (F := F)) Variants.none c none) E (cc0_qfwd i arg2 harg2 arg3 harg3 arg4 harg4 arg5 harg5 arg6 harg6 arg7 harg7) K } := by
  refine ⟨?_, [], [], [], fun E K => ?run⟩
  case run =>
    simp only [cc0_qfwd_eq_skeleton]; unfold cc0_qfwd_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg2.eq_unread hf0; obtain rfl := harg3.eq_unread hf1; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5

end Cert.FwdIdeal.Gen

end
-- ==== Proof.FwdFrame.lean ====
module

public import proofs.«01_k».proof.Proof.FwdRunB
public import Idealize.ShloMosaic.Lib.Claim

/-! What the forward kernel's windows hold point by point, the body's obligation, and the run of the whole region. -/

@[expose] public section

-- membership in a rectangle of production extents (`View.cover_of_tiled`): the elaborator's structural look
-- recurses once per coordinate of the long axes
set_option maxRecDepth 16384

noncomputable section

namespace Cert.FwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 2 tile its block (1 store of `S768x512`, checked by the kernel's evaluation: Lib/Ring.lean `Piece.tiledL`, linear in the pieces, through a loop's `@[irreducible]` trip theorem too), so they cover it. -/
theorem cover0_A_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S768x512.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S768x512.size (by sl_kernel_rfl) y

/-- What case A leaves in output 2's staging buffer: its pieces read back over junk. -/
def out0_A_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S768x512 .bf16 :=
  VO0_2.read (Elt F) (VO0_2.writes (Elt F) VO0_2.junk (kernelRun0_A c i arg2 harg2 arg3 harg3 arg4 harg4 arg5 harg5 arg6 harg6 arg7 harg7 hc0 x0 x1).1)

/-- Case A's pieces for output 3 tile its block (160 stores of `S128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S5120x512.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S128x128.size (by sl_kernel_rfl) y

/-- What case A leaves in output 3's staging buffer: its pieces read back over junk. -/
def out0_A_3 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S5120x512 .fp8e4m3 :=
  VO0_3.read (Elt F) (VO0_3.writes (Elt F) VO0_3.junk (kernelRun0_A c i arg2 harg2 arg3 harg3 arg4 harg4 arg5 harg5 arg6 harg6 arg7 harg7 hc0 x0 x1).2.1)

/-- Case A's pieces for output 4 tile its block (160 stores of `S128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S5120x512.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S128x128.size (by sl_kernel_rfl) y

/-- What case A leaves in output 4's staging buffer: its pieces read back over junk. -/
def out0_A_4 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S5120x512 .bf16 :=
  VO0_4.read (Elt F) (VO0_4.writes (Elt F) VO0_4.junk (kernelRun0_A c i arg2 harg2 arg3 harg3 arg4 harg4 arg5 harg5 arg6 harg6 arg7 harg7 hc0 x0 x1).2.2.1)

/-- Case A's pieces for output 5 tile its block (40 stores of `S1x1x4`, checked by the kernel's evaluation: Lib/Ring.lean `Piece.tiledL`, linear in the pieces, through a loop's `@[irreducible]` trip theorem too), so they cover it. -/
theorem cover0_A_5 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S1x40x4.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x1x4.size (by sl_kernel_rfl) y

/-- What case A leaves in output 5's staging buffer: its pieces read back over junk. -/
def out0_A_5 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S1x40x4 .f32 :=
  VO0_5.read (Elt F) (VO0_5.writes (Elt F) VO0_5.junk (kernelRun0_A c i arg2 harg2 arg3 harg3 arg4 harg4 arg5 harg5 arg6 harg6 arg7 harg7 hc0 x0 x1).2.2.2.1)

/-- Case B's pieces for output 2 tile its block (1 store of `S768x512`, checked by the kernel's evaluation: Lib/Ring.lean `Piece.tiledL`, linear in the pieces, through a loop's `@[irreducible]` trip theorem too), so they cover it. -/
theorem cover0_B_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) (y : S768x512.Idx) :
    ∃ pc ∈ (kernelRun0_B c i arg2 harg2 arg3 harg3 arg4 harg4 arg5 harg5 arg6 harg6 arg7 harg7 hc0 x0 x1 xo3 xo4 xo5).1, y ∈ pc.1.set :=
  View.cover_of_tiledL (kernelRun0_B c i arg2 harg2 arg3 harg3 arg4 harg4 arg5 harg5 arg6 harg6 arg7 harg7 hc0 x0 x1 xo3 xo4 xo5).1 S768x512.size (by sl_kernel_rfl) y

/-- What case B leaves in output 2's staging buffer: its pieces read back over junk. -/
def out0_B_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S768x512 .bf16 :=
  VO0_2.read (Elt F) (VO0_2.writes (Elt F) VO0_2.junk (kernelRun0_B c i arg2 harg2 arg3 harg3 arg4 harg4 arg5 harg5 arg6 harg6 arg7 harg7 hc0 x0 x1 xo3 xo4 xo5).1)

/-- Case B stores nothing into output 3, a live window: its staging buffer holds what the point before left. -/
def out0_B_3 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S5120x512 .fp8e4m3 := xo3

/-- Case B stores nothing into output 4, a live window: its staging buffer holds what the point before left. -/
def out0_B_4 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S5120x512 .bf16 := xo4

/-- Case B stores nothing into output 5, a live window: its staging buffer holds what the point before left. -/
def out0_B_5 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S1x40x4 .f32 := xo5

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S768x512 .bf16 × Vec F S5120x512 .fp8e4m3 × Vec F S5120x512 .bf16 × Vec F S1x40x4 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 280 := lt_of_lt_of_eq t.isLt (show cfg0.N = 280 from N_0)
  rw [after0_3, after0_3]
  by_cases h0 : t.val % 8 = 0
  · rw [liveAt0_3_A t ((hcond0_0 t).mpr h0)] at hi
    exact absurd hi Bool.false_ne_true
  · rw [outsAt0_B m c t h0]; dsimp only; unfold out0_B_3; rfl

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 280 := lt_of_lt_of_eq t.isLt (show cfg0.N = 280 from N_0)
  rw [after0_4, after0_4]
  by_cases h0 : t.val % 8 = 0
  · rw [liveAt0_4_A t ((hcond0_0 t).mpr h0)] at hi
    exact absurd hi Bool.false_ne_true
  · rw [outsAt0_B m c t h0]; dsimp only; unfold out0_B_4; rfl

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 280 := lt_of_lt_of_eq t.isLt (show cfg0.N = 280 from N_0)
  rw [after0_5, after0_5]
  by_cases h0 : t.val % 8 = 0
  · rw [liveAt0_5_A t ((hcond0_0 t).mpr h0)] at hi
    exact absurd hi Bool.false_ne_true
  · rw [outsAt0_B m c t h0]; dsimp only; unfold out0_B_5; rfl
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  rw [Dat.before_out_traj _ 3 rfl (fun _ _ => rfl) (hcarry0_3 m c) t.val t rfl d,
    if_neg (by rw [notFresh0_3_B t (fun h => h0 ((hcond0_0 t).mp h))]; exact Bool.false_ne_true)]
  dsimp only [dats]
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  rw [Dat.before_out_traj _ 4 rfl (fun _ _ => rfl) (hcarry0_4 m c) t.val t rfl d,
    if_neg (by rw [notFresh0_4_B t (fun h => h0 ((hcond0_0 t).mp h))]; exact Bool.false_ne_true)]
  dsimp only [dats]
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- At a point of case B, output 3's buffer as the body leaves it: what the point before left, which is what the point's
    data say, written back there or not. -/
theorem leaves0_3_B (c : Dev nD) (t : Fin cfg0.N) (h0 : ¬t.val % 8 = 0) :
    (owns (c : Thread nD τ) (ms0_3 t) fullShare (outsAt0 m c (t.val - 1) (Nat.lt_of_le_of_lt (Nat.sub_le _ _) t.isLt)).2.1 : sProp 𝕄)
      ⊢ (dats m 0 c).leavesExact 3 t := by
  have hi := idleAt0_3_B t (fun h => h0 ((hcond0_0 t).mp h))
  have ha : (dats m 0 c).after 3 t = (outsAt0 m c (t.val - 1) (Nat.lt_of_le_of_lt (Nat.sub_le _ _) t.isLt)).2.1 := by
    rw [after0_3, outsAt0_B m c t h0]; dsimp only; unfold out0_B_3; rfl
  cases hf : (cfg0.win 3).flush t
  · rw [Dat.leavesExact_idle _ 3 t hi hf]
    simp only [before0_3_B m c t h0]
    iintro H
    iexists ((dats m 0 c).after 3 t)
    iexact H
  · unfold Dat.leavesExact
    rw [hi, hf, ha]

/-- At a point of case B, output 4's buffer as the body leaves it: what the point before left, which is what the point's
    data say, written back there or not. -/
theorem leaves0_4_B (c : Dev nD) (t : Fin cfg0.N) (h0 : ¬t.val % 8 = 0) :
    (owns (c : Thread nD τ) (ms0_4 t) fullShare (outsAt0 m c (t.val - 1) (Nat.lt_of_le_of_lt (Nat.sub_le _ _) t.isLt)).2.2.1 : sProp 𝕄)
      ⊢ (dats m 0 c).leavesExact 4 t := by
  have hi := idleAt0_4_B t (fun h => h0 ((hcond0_0 t).mp h))
  have ha : (dats m 0 c).after 4 t = (outsAt0 m c (t.val - 1) (Nat.lt_of_le_of_lt (Nat.sub_le _ _) t.isLt)).2.2.1 := by
    rw [after0_4, outsAt0_B m c t h0]; dsimp only; unfold out0_B_4; rfl
  cases hf : (cfg0.win 4).flush t
  · rw [Dat.leavesExact_idle _ 4 t hi hf]
    simp only [before0_4_B m c t h0]
    iintro H
    iexists ((dats m 0 c).after 4 t)
    iexact H
  · unfold Dat.leavesExact
    rw [hi, hf, ha]

/-- At a point of case B, output 5's buffer as the body leaves it: what the point before left, which is what the point's
    data say, written back there or not. -/
theorem leaves0_5_B (c : Dev nD) (t : Fin cfg0.N) (h0 : ¬t.val % 8 = 0) :
    (owns (c : Thread nD τ) (ms0_5 t) fullShare (outsAt0 m c (t.val - 1) (Nat.lt_of_le_of_lt (Nat.sub_le _ _) t.isLt)).2.2.2 : sProp 𝕄)
      ⊢ (dats m 0 c).leavesExact 5 t := by
  have hi := idleAt0_5_B t (fun h => h0 ((hcond0_0 t).mp h))
  have ha : (dats m 0 c).after 5 t = (outsAt0 m c (t.val - 1) (Nat.lt_of_le_of_lt (Nat.sub_le _ _) t.isLt)).2.2.2 := by
    rw [after0_5, outsAt0_B m c t h0]; dsimp only; unfold out0_B_5; rfl
  cases hf : (cfg0.win 5).flush t
  · rw [Dat.leavesExact_idle _ 5 t hi hf]
    simp only [before0_5_B m c t h0]
    iintro H
    iexists ((dats m 0 c).after 5 t)
    iexact H
  · unfold Dat.leavesExact
    rw [hi, hf, ha]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  have hN : t.val < 280 := lt_of_lt_of_eq t.isLt (show cfg0.N = 280 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3_A t ((hcond0_0 t).mpr h0)], after0_3]
    rw [show (dats m 0 c).leavesExact 4 t = owns (c : Thread nD τ) (ms0_4 t) fullShare ((dats m 0 c).after 4 t) from by
      unfold Dat.leavesExact; rw [liveAt0_4_A t ((hcond0_0 t).mpr h0)], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [outsAt0_A m c t h0]
    unfold out0_A_2 out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [outsAt0_B m c t h0]
    simp only [before0_3_B m c t h0, before0_4_B m c t h0, before0_5_B m c t h0]
    unfold out0_B_2; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _).2.2.2.2 Set.univ _)
    isplitl [H0]; · iexact H0
    isplitl [H1]; · iexact H1
    isplitl [H2]; · iexists _; iexact H2
    isplitl [H3]; · iexact H3
    isplitl [H4]; · iexact H4
    isplitl [H5]; · iexact H5
    iintro ⟨H0, H1, ⟨%e2, H2⟩, H3, H4, H5⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _)
    isplitl [H3]; · iapply (leaves0_3_B m c t h0); iexact H3
    isplitl [H4]; · iapply (leaves0_4_B m c t h0); iexact H4
    iapply (leaves0_5_B m c t h0); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_FwdIdeal`'s statement (Defs.lean) at any `F` — Proof.lean cites it at `Bits`:
    `theorem Cert.Proof.claim : Cert.Claim := ⟨Cert.FwdIdeal.Gen.facts, fun m ρ _ => Cert.FwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FwdIdeal.Gen

end
-- ==== Proof.FwdRun.lean ====
module

public import proofs.«01_k».proof.Proof.Gen.FwdIdeal
public import proofs.«01_k».proof.Proof.FwdFrame
public import Idealize.ShloMosaic.Lib.StableHlo.Run
public import Idealize.ShloMosaic.Lib.Pipeline.FrameSuffix

/-! The forward kernel's run: each result as what the region leaves in its array, after the host operations that follow. -/

@[expose] public section

noncomputable section

namespace Cert.FwdIdeal.Value

open Cert.FwdIdeal Cert.FwdIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v1_0` (window 2's): not opened here. -/
def reg_main_v1_0 (c : Dev nD) : Buf (Elt F) ((c.tc : Thread nD τ).loc main_v1_0) := (Gen.dats m 0 c).arrAt 2 cfg0.N
/-- What the kernel region leaves in its result array `main_v1_1` (window 3's): not opened here. -/
def reg_main_v1_1 (c : Dev nD) : Buf (Elt F) ((c.tc : Thread nD τ).loc main_v1_1) := (Gen.dats m 0 c).arrAt 3 cfg0.N
/-- What the kernel region leaves in its result array `main_v1_2` (window 4's): not opened here. -/
def reg_main_v1_2 (c : Dev nD) : Buf (Elt F) ((c.tc : Thread nD τ).loc main_v1_2) := (Gen.dats m 0 c).arrAt 4 cfg0.N
/-- What the kernel region leaves in its result array `main_v1_3` (window 5's): not opened here. -/
def reg_main_v1_3 (c : Dev nD) : Buf (Elt F) ((c.tc : Thread nD τ).loc main_v1_3) := (Gen.dats m 0 c).arrAt 5 cfg0.N

/-- The exit contents at the region's result array `main_v1_3`. -/
theorem exit_main_v1_3 (c : Dev nD) : exitV m c (Proc.devRef .tc main_v1_3) = reg_main_v1_3 m c :=
  Pipeline.withArrays_arr spec0 Gen.launch0.win.arr_inj c (Gen.V0 m c) _ 5
/-- The exit contents at the region's result array `main_v1_0`. -/
theorem exit_main_v1_0 (c : Dev nD) : exitV m c (Proc.devRef .tc main_v1_0) = reg_main_v1_0 m c :=
  Pipeline.withArrays_arr spec0 Gen.launch0.win.arr_inj c (Gen.V0 m c) _ 2
/-- The exit contents at the region's result array `main_v1_1`. -/
theorem exit_main_v1_1 (c : Dev nD) : exitV m c (Proc.devRef .tc main_v1_1) = reg_main_v1_1 m c :=
  Pipeline.withArrays_arr spec0 Gen.launch0.win.arr_inj c (Gen.V0 m c) _ 3
/-- The exit contents at the region's result array `main_v1_2`. -/
theorem exit_main_v1_2 (c : Dev nD) : exitV m c (Proc.devRef .tc main_v1_2) = reg_main_v1_2 m c :=
  Pipeline.withArrays_arr spec0 Gen.launch0.win.arr_inj c (Gen.V0 m c) _ 4

/-- The later operations from any contents `V0`, read at result `main_v4`. -/
theorem tail_main_v4 (V0 : Valuation τ sig (Elt F)) :
    after (List.flatten [Gen.hostOps1]) V0 (Proc.devRef .tc main_v4) = shapeCast _ (V0 (Proc.devRef .tc main_v1_0)) shapeCasts_S6144x17920_S4x1536x17920 := by
  simp only [Gen.hostOps1, List.flatten_cons, List.flatten_nil, List.append_nil, List.cons_append, List.nil_append]
  after_results <;> rfl
/-- Result `main_v4` after the later operations from the region's exit contents. -/
theorem fin_main_v4 (c : Dev nD) :
    Pipeline.afterTail₀ cfgs (Gen.dats m) 0 (Gen.V0 m) [Gen.hostOps1] c main_v4 = shapeCast _ (reg_main_v1_0 m c) shapeCasts_S6144x17920_S4x1536x17920 :=
  (tail_main_v4 (exitV m c)).trans (by rw [exit_main_v1_0])

/-- The later operations from any contents `V0`, read at result `main_v3`. -/
theorem tail_main_v3 (V0 : Valuation τ sig (Elt F)) :
    after (List.flatten [Gen.hostOps1]) V0 (Proc.devRef .tc main_v3) = shapeCast _ (transpose S40x35x4 [1, 0, 2] (V0 (Proc.devRef .tc main_v1_3)) transposes_S35x40x4_S40x35x4_1_0_2) shapeCasts_S40x35x4_S40x140 := by
  simp only [Gen.hostOps1, List.flatten_cons, List.flatten_nil, List.append_nil, List.cons_append, List.nil_append]
  after_results <;> rfl
/-- Result `main_v3` after the later operations from the region's exit contents. -/
theorem fin_main_v3 (c : Dev nD) :
    Pipeline.afterTail₀ cfgs (Gen.dats m) 0 (Gen.V0 m) [Gen.hostOps1] c main_v3 = shapeCast _ (transpose S40x35x4 [1, 0, 2] (reg_main_v1_3 m c) transposes_S35x40x4_S40x35x4_1_0_2) shapeCasts_S40x35x4_S40x140 :=
  (tail_main_v3 (exitV m c)).trans (by rw [exit_main_v1_3])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v4) = shapeCast _ (reg_main_v1_0 m c) shapeCasts_S6144x17920_S4x1536x17920
      ∧ r.2.mem ((c.tc : Thread nD τ).loc main_v1_1) = reg_main_v1_1 m c
      ∧ r.2.mem ((c.tc : Thread nD τ).loc main_v1_2) = reg_main_v1_2 m c
      ∧ r.2.mem ((c.tc : Thread nD τ).loc main_v3) = shapeCast _ (transpose S40x35x4 [1, 0, 2] (reg_main_v1_3 m c) transposes_S35x40x4_S40x35x4_1_0_2) shapeCasts_S40x35x4_S40x140
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v4 (Pipeline.mem_restRefs_of main_v4 (by decide) (by decide))).trans (fin_main_v4 m c),
      ((h c).1 3).trans (show _ = reg_main_v1_1 m c from rfl),
      ((h c).1 4).trans (show _ = reg_main_v1_2 m c from rfl),
      ((h c).2 main_v3 (Pipeline.mem_restRefs_of main_v3 (by decide) (by decide))).trans (fin_main_v3 m c),
      ((h c).2 main_arg0 (Pipeline.mem_restRefs_of main_arg0 (by decide) (by decide))).trans (Gen.W_main_arg0 m (Gen.dats m) c),
      ((h c).1 1).trans (((Gen.dats m 0 c).arrAt_in 1 rfl _).trans ((Gen.A_eq m c 1).trans (Gen.V_main_arg1 m c)))⟩) (Gen.run_main m ρ)

end Cert.FwdIdeal.Value

end
-- ==== Proof.FwdPieces.lean ====
module

public import proofs.«01_k».proof.Proof.FwdFrame
public import Idealize.ShloMosaic.Lib.Pipeline.Value
public import Idealize.ShloMosaic.Lib.Pipeline.ReadBack
public import Idealize.ShloMosaic.Lib.Pointwise
public import Idealize.ShloMosaic.Lib.ValueIdxCore

/-! What the body leaves in its four output blocks: the codes, the rounded weight and the scales of each 128 x 128 block
    of the weight, and the product of the row block of x with the rounded weight. -/

@[expose] public section

set_option maxRecDepth 16384

noncomputable section

namespace Cert.FwdIdeal.Value

open Idealize.ShloMosaic Idealize.ShloMosaic.TcCoe
open Cert.FwdIdeal Cert.FwdIdeal.Gen

variable {F : FTy → Type} [FloatOps F]

/-- The codes of one 128 x 128 block. -/
def codesBlk (v : Vec F S128x128 .f32) : FVec F S128x128 .fp8e4m3 := k0_pay6 (Scalar.ofBits .f32 0x43E00000#32) (k0_pay5 v)
/-- The rounded weight of one block: the codes times the scale. -/
def wqBlk (v : Vec F S128x128 .f32) : FVec F S128x128 .bf16 := k0_pay7 (k0_pay4 v) (Scalar.ofBits .f32 0x43E00000#32) (k0_pay5 v)
/-- The scale of one block. -/
def scaleBlk (v : Vec F S128x128 .f32) : FVec F S1x1 .f32 := k0_pay4 v

/-- Block (a, b) of a column panel of the weight. -/
def tile (x : Vec F S5120x512 .f32) (a b : ℕ) (ha : a < 40) (hb : b < 4) : Vec F S128x128 .f32 := fun p =>
  x (ValueIdx.ix2 ⟨128 * a + (p 0).val, by have h : (p 0).val < 128 := (p 0).isLt; omega⟩
    ⟨128 * b + (p 1).val, by have h : (p 1).val < 128 := (p 1).isLt; omega⟩)

theorem y0_lt (y : S5120x512.Idx) : (y 0).val / 128 < 40 := by have h : (y 0).val < 5120 := (y 0).isLt; omega
theorem y1_lt (y : S5120x512.Idx) : (y 1).val / 128 < 4 := by have h : (y 1).val < 512 := (y 1).isLt; omega

/-- A panel put together from a function of its blocks. -/
def panel (e : EltTy) (f : Vec F S128x128 .f32 → Vec F S128x128 e) (x : Vec F S5120x512 .f32) : Vec F S5120x512 e := fun y =>
  f (tile x ((y 0).val / 128) ((y 1).val / 128) (y0_lt y) (y1_lt y))
    (ValueIdx.ix2 ⟨(y 0).val % 128, Nat.mod_lt _ (by decide)⟩ ⟨(y 1).val % 128, Nat.mod_lt _ (by decide)⟩)

/-- The scales of a panel. -/
def panelScale (x : Vec F S5120x512 .f32) : S1x40x4.Idx → Elt F .f32 := fun y =>
  scaleBlk (tile x (y 1).val (y 2).val (y 1).isLt (y 2).isLt) (ValueIdx.ix2 ⟨0, by decide⟩ ⟨0, by decide⟩)

theorem off1_eq : ∀ k : Fin k0_t1_loop.trips, k0_off1 k = ![128 * k.val, 128 * 0] := by decide +kernel
theorem off2_eq : ∀ k : Fin k0_t1_loop.trips, k0_off2 k = ![128 * k.val, 128 * 1] := by decide +kernel
theorem off3_eq : ∀ k : Fin k0_t1_loop.trips, k0_off3 k = ![128 * k.val, 128 * 2] := by decide +kernel
theorem off4_eq : ∀ k : Fin k0_t1_loop.trips, k0_off4 k = ![128 * k.val, 128 * 3] := by decide +kernel
theorem off5_eq : ∀ k : Fin k0_t1_loop.trips, k0_off5 k = ![0, k.val, 0] := by decide +kernel
theorem k_lt (k : Fin k0_t1_loop.trips) : k.val < 40 := Nat.lt_of_lt_of_le k.isLt k0_t1_abs.2.1

/-- A load of a 128 x 128 rectangle of the panel is the block there. -/
theorem ld_tile (x : Vec F S5120x512 .f32) (off : Fin 2 → Nat) (a b : ℕ) (ha : a < 40) (hb : b < 4) (h : off = ![128 * a, 128 * b])
    (inb : ∀ d, off d + S128x128.size d ≤ S5120x512.size d) : View.ld x (Rect.unit (s := S5120x512) off S128x128.size inb) = tile x a b ha hb := by
  subst h
  funext p
  unfold tile
  show x _ = x _
  congr 1
  funext d
  match d with
  | ⟨0, _⟩ => exact Fin.ext (show 128 * a + 1 * (p 0).val = _ by rw [Nat.one_mul])
  | ⟨1, _⟩ => exact Fin.ext (show 128 * b + 1 * (p 1).val = _ by rw [Nat.one_mul])

/-- A block of the panel put together from a function of the blocks is that function of the block. -/
theorem panel_emb (e : EltTy) (f : Vec F S128x128 .f32 → Vec F S128x128 e) (x : Vec F S5120x512 .f32) (off : Fin 2 → Nat) (a b : ℕ) (ha : a < 40)
    (hb : b < 4) (h : off = ![128 * a, 128 * b]) (inb : ∀ d, off d + S128x128.size d ≤ S5120x512.size d) (p : S128x128.Idx) :
    panel e f x ((Rect.unit (s := S5120x512) off S128x128.size inb).emb p) = f (tile x a b ha hb) p := by
  subst h
  have h0 : (p 0).val < 128 := (p 0).isLt
  have h1 : (p 1).val < 128 := (p 1).isLt
  have e0 : ((Rect.unit (s := S5120x512) ![128 * a, 128 * b] S128x128.size inb).emb p 0).val = 128 * a + 1 * (p 0).val := rfl
  have e1 : ((Rect.unit (s := S5120x512) ![128 * a, 128 * b] S128x128.size inb).emb p 1).val = 128 * b + 1 * (p 1).val := rfl
  unfold panel
  generalize (Rect.unit (s := S5120x512) ![128 * a, 128 * b] S128x128.size inb).emb p = y at e0 e1 ⊢
  have q0 : (y 0).val / 128 = a := by omega
  have q1 : (y 1).val / 128 = b := by omega
  have r0 : (y 0).val % 128 = (p 0).val := by omega
  have r1 : (y 1).val % 128 = (p 1).val := by omega
  have ht : tile x ((y 0).val / 128) ((y 1).val / 128) (y0_lt y) (y1_lt y) = tile x a b ha hb := by congr 1
  rw [ht]
  congr 1
  funext d
  match d with
  | ⟨0, _⟩ => exact Fin.ext r0
  | ⟨1, _⟩ => exact Fin.ext r1

theorem codes2 (v : Vec F S128x128 .f32) : k0_pay10 v (k0_pay8 v) 254#32 = codesBlk v := rfl
theorem codes3 (v : Vec F S128x128 .f32) : k0_pay16 v (k0_pay12 v) k0_pay13 = codesBlk v := rfl
theorem codes4 (v : Vec F S128x128 .f32) : k0_pay21 v (k0_pay18 v) 0#32 = codesBlk v := rfl
theorem wq2 (v : Vec F S128x128 .f32) : k0_pay11 v (k0_pay8 v) (k0_pay9 v) 254#32 = wqBlk v := rfl
theorem wq3 (v : Vec F S128x128 .f32) : k0_pay17 v (k0_pay12 v) k0_pay13 = wqBlk v := rfl
theorem wq4 (v : Vec F S128x128 .f32) : k0_pay22 v (k0_pay18 v) 0#32 = wqBlk v := rfl

/-- The panel held by a buffer, loaded through a rectangle and put through a function of the block, is that panel of blocks. -/
theorem piece {M : Memref sig .tc .vmem S5120x512 .f32} (hM : M.IsWhole) (x : Vec F S5120x512 .f32) (e : EltTy)
    (f : Vec F S128x128 .f32 → Vec F S128x128 e) (off : Fin 2 → Nat) (a b : ℕ) (ha : a < 40) (hb : b < 4) (h : off = ![128 * a, 128 * b])
    (inb : ∀ d, off d + S128x128.size d ≤ S5120x512.size d) (p : S128x128.Idx) :
    f (M.view.readAt (Elt F) (Rect.unit (s := S5120x512) off S128x128.size inb).toLoadRect (hM.unread x)) p
      = panel e f x ((Rect.unit (s := S5120x512) off S128x128.size inb).emb p) := by
  rw [panel_emb e f x off a b ha hb h inb p, View.readAt_eq_ld, hM.read_unread, ld_tile x off a b ha hb h inb]

section Trip

variable (𝒱 : Variants) (bd : Option 𝒱.V) (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (h1 : k0_cond1 i = 1#1) (x1 : Vec F S5120x512 .f32)

theorem trip_codes (k : Fin k0_t1_loop.trips) :
    View.PiecesOf (panel .fp8e4m3 codesBlk x1) (trip_k0_t1 𝒱 c bd i arg2 harg2 arg3 harg3 arg4 harg4 arg5 harg5 arg6 harg6 arg7 harg7 h1 (harg3.unread x1) k).1 := by
  unfold trip_k0_t1
  refine ⟨fun x => ?_, fun x => ?_, fun x => ?_, fun x => ?_, trivial⟩
  · exact (congrFun (codes4 _) x).trans (piece harg3 x1 .fp8e4m3 codesBlk (k0_off4 k) k.val 3 (k_lt k) (by decide) (off4_eq k) (k0_off4_inb i k h1) x)
  · exact (congrFun (codes3 _) x).trans (piece harg3 x1 .fp8e4m3 codesBlk (k0_off3 k) k.val 2 (k_lt k) (by decide) (off3_eq k) (k0_off3_inb i k h1) x)
  · exact (congrFun (codes2 _) x).trans (piece harg3 x1 .fp8e4m3 codesBlk (k0_off2 k) k.val 1 (k_lt k) (by decide) (off2_eq k) (k0_off2_inb i k h1) x)
  · exact piece harg3 x1 .fp8e4m3 codesBlk (k0_off1 k) k.val 0 (k_lt k) (by decide) (off1_eq k) (k0_off1_inb i k h1) x

theorem trip_wq (k : Fin k0_t1_loop.trips) :
    View.PiecesOf (panel .bf16 wqBlk x1) (trip_k0_t1 𝒱 c bd i arg2 harg2 arg3 harg3 arg4 harg4 arg5 harg5 arg6 harg6 arg7 harg7 h1 (harg3.unread x1) k).2.1 := by
  unfold trip_k0_t1
  refine ⟨fun x => ?_, fun x => ?_, fun x => ?_, fun x => ?_, trivial⟩
  · exact (congrFun (wq4 _) x).trans (piece harg3 x1 .bf16 wqBlk (k0_off4 k) k.val 3 (k_lt k) (by decide) (off4_eq k) (k0_off4_inb i k h1) x)
  · exact (congrFun (wq3 _) x).trans (piece harg3 x1 .bf16 wqBlk (k0_off3 k) k.val 2 (k_lt k) (by decide) (off3_eq k) (k0_off3_inb i k h1) x)
  · exact (congrFun (wq2 _) x).trans (piece harg3 x1 .bf16 wqBlk (k0_off2 k) k.val 1 (k_lt k) (by decide) (off2_eq k) (k0_off2_inb i k h1) x)
  · exact piece harg3 x1 .bf16 wqBlk (k0_off1 k) k.val 0 (k_lt k) (by decide) (off1_eq k) (k0_off1_inb i k h1) x

/-- The four scales of a row of blocks, side by side. -/
theorem row_scales (v0 v1 v2 v3 : Vec F S128x128 .f32) (x : S1x1x4.Idx) (n : ℕ) (hn : (x 2).val = n) :
    (n = 0 → k0_pay1 (k0_pay23 (k0_pay4 v0) (k0_pay9 v1) (k0_pay15 (k0_pay12 v2) k0_pay13) (k0_pay18 v3) 0#32) x = scaleBlk v0 (ValueIdx.ix2 0 0))
    ∧ (n = 1 → k0_pay1 (k0_pay23 (k0_pay4 v0) (k0_pay9 v1) (k0_pay15 (k0_pay12 v2) k0_pay13) (k0_pay18 v3) 0#32) x = scaleBlk v1 (ValueIdx.ix2 0 0))
    ∧ (n = 2 → k0_pay1 (k0_pay23 (k0_pay4 v0) (k0_pay9 v1) (k0_pay15 (k0_pay12 v2) k0_pay13) (k0_pay18 v3) 0#32) x = scaleBlk v2 (ValueIdx.ix2 0 0))
    ∧ (n = 3 → k0_pay1 (k0_pay23 (k0_pay4 v0) (k0_pay9 v1) (k0_pay15 (k0_pay12 v2) k0_pay13) (k0_pay18 v3) 0#32) x = scaleBlk v3 (ValueIdx.ix2 0 0)) := by
  have e2 : k0_pay9 v1 = scaleBlk v1 := rfl
  have e3 : k0_pay15 (k0_pay12 v2) k0_pay13 = scaleBlk v2 := rfl
  have e4 : k0_pay20 (F := F) (k0_pay18 v3) 0#32 = scaleBlk v3 := rfl
  have e1 : k0_pay4 v0 = scaleBlk v0 := rfl
  have hi : ∀ j : S1x1.Idx, j = ValueIdx.ix2 0 0 := fun j => by
    funext d
    match d with
    | ⟨0, _⟩ => exact Subsingleton.elim (α := Fin 1) _ _
    | ⟨1, _⟩ => exact Subsingleton.elim (α := Fin 1) _ _
  rw [e1, e2, e3]
  unfold k0_pay1 k0_pay23
  rw [e4]
  generalize scaleBlk v0 = s0
  generalize scaleBlk v1 = s1
  generalize scaleBlk v2 = s2
  generalize scaleBlk v3 = s3
  dsimp only
  refine ⟨fun h => ?_, fun h => ?_, fun h => ?_, fun h => ?_⟩ <;> subst h <;> pointwise <;> simp only [hn, Nat.reduceSub, Nat.reduceLT, ↓reduceDIte] <;> exact congrArg _ (hi _)

theorem trip_scale (k : Fin k0_t1_loop.trips) :
    View.PiecesOf (panelScale x1) (trip_k0_t1 𝒱 c bd i arg2 harg2 arg3 harg3 arg4 harg4 arg5 harg5 arg6 harg6 arg7 harg7 h1 (harg3.unread x1) k).2.2.1 := by
  unfold trip_k0_t1
  refine ⟨fun x => ?_, trivial⟩
  have e1 : ((Rect.unit (s := S1x40x4) (k0_off5 k) S1x1x4.size (k0_off5_inb i k h1)).emb x 1).val = k.val := by
    have hx : (x 1).val < 1 := (x 1).isLt
    have h5 : k0_off5 k 1 = k.val := congrFun (off5_eq k) 1
    show k0_off5 k 1 + 1 * (x 1).val = _
    omega
  have e2 : ((Rect.unit (s := S1x40x4) (k0_off5 k) S1x1x4.size (k0_off5_inb i k h1)).emb x 2).val = (x 2).val := by
    have h5 : k0_off5 k 2 = 0 := congrFun (off5_eq k) 2
    show k0_off5 k 2 + 1 * (x 2).val = _
    omega
  have hrow := row_scales (arg3.view.readAt (Elt F) (Rect.unit (s := S5120x512) (k0_off1 k) S128x128.size (k0_off1_inb i k h1)).toLoadRect (harg3.unread x1))
    (arg3.view.readAt (Elt F) (Rect.unit (s := S5120x512) (k0_off2 k) S128x128.size (k0_off2_inb i k h1)).toLoadRect (harg3.unread x1))
    (arg3.view.readAt (Elt F) (Rect.unit (s := S5120x512) (k0_off3 k) S128x128.size (k0_off3_inb i k h1)).toLoadRect (harg3.unread x1))
    (arg3.view.readAt (Elt F) (Rect.unit (s := S5120x512) (k0_off4 k) S128x128.size (k0_off4_inb i k h1)).toLoadRect (harg3.unread x1)) x (x 2).val rfl
  have hx2 : (x 2).val < 4 := (x 2).isLt
  refine Eq.trans (b := scaleBlk (tile x1 k.val (x 2).val (k_lt k) hx2) (ValueIdx.ix2 0 0)) ?_ ?_
  · obtain ⟨r0, r1, r2, r3⟩ := hrow
    rcases (by omega : (x 2).val = 0 ∨ (x 2).val = 1 ∨ (x 2).val = 2 ∨ (x 2).val = 3) with h | h | h | h
    · refine (r0 h).trans ?_
      rw [View.readAt_eq_ld, harg3.read_unread, ld_tile x1 (k0_off1 k) k.val 0 (k_lt k) (by decide) (off1_eq k)]; congr 2; exact h.symm
    · refine (r1 h).trans ?_
      rw [View.readAt_eq_ld, harg3.read_unread, ld_tile x1 (k0_off2 k) k.val 1 (k_lt k) (by decide) (off2_eq k)]; congr 2; exact h.symm
    · refine (r2 h).trans ?_
      rw [View.readAt_eq_ld, harg3.read_unread, ld_tile x1 (k0_off3 k) k.val 2 (k_lt k) (by decide) (off3_eq k)]; congr 2; exact h.symm
    · refine (r3 h).trans ?_
      rw [View.readAt_eq_ld, harg3.read_unread, ld_tile x1 (k0_off4 k) k.val 3 (k_lt k) (by decide) (off4_eq k)]; congr 2; exact h.symm
  · refine Eq.trans ?_ (b := panelScale x1 ((Rect.unit (s := S1x40x4) (k0_off5 k) S1x1x4.size (k0_off5_inb i k h1)).emb x)) rfl
    generalize (Rect.unit (s := S1x40x4) (k0_off5 k) S1x1x4.size (k0_off5_inb i k h1)).emb x = y at e1 e2 ⊢
    unfold panelScale
    congr 1
    congr 1 <;> omega

theorem pb_pieces : ∀ n : ℕ, n ≤ k0_t1_loop.trips →
    (∀ p ∈ (pb_k0_t1 𝒱 c bd i arg2 harg2 arg3 harg3 arg4 harg4 arg5 harg5 arg6 harg6 arg7 harg7 h1 (harg3.unread x1) n).1, ∀ x : p.1.shape.Idx, p.2 x = panel .fp8e4m3 codesBlk x1 (p.1.emb x))
    ∧ (∀ p ∈ (pb_k0_t1 𝒱 c bd i arg2 harg2 arg3 harg3 arg4 harg4 arg5 harg5 arg6 harg6 arg7 harg7 h1 (harg3.unread x1) n).2.1, ∀ x : p.1.shape.Idx, p.2 x = panel .bf16 wqBlk x1 (p.1.emb x))
    ∧ (∀ p ∈ (pb_k0_t1 𝒱 c bd i arg2 harg2 arg3 harg3 arg4 harg4 arg5 harg5 arg6 harg6 arg7 harg7 h1 (harg3.unread x1) n).2.2, ∀ x : p.1.shape.Idx, p.2 x = panelScale x1 (p.1.emb x))
  | 0, _ => ⟨fun p hp => absurd hp List.not_mem_nil, fun p hp => absurd hp List.not_mem_nil, fun p hp => absurd hp List.not_mem_nil⟩
  | n + 1, hn => by
    obtain ⟨i1, i2, i3⟩ := pb_pieces n (Nat.le_of_succ_le hn)
    rw [pb_k0_t1_succ 𝒱 c bd i arg2 harg2 arg3 harg3 arg4 harg4 arg5 harg5 arg6 harg6 arg7 harg7 h1 (harg3.unread x1) ⟨n, hn⟩]
    refine ⟨fun p hp => ?_, fun p hp => ?_, fun p hp => ?_⟩
    · rcases List.mem_append.mp hp with h | h
      · exact (trip_codes 𝒱 bd c i arg2 harg2 arg3 harg3 arg4 harg4 arg5 harg5 arg6 harg6 arg7 harg7 h1 x1 ⟨n, hn⟩).mem p h
      · exact i1 p h
    · rcases List.mem_append.mp hp with h | h
      · exact (trip_wq 𝒱 bd c i arg2 harg2 arg3 harg3 arg4 harg4 arg5 harg5 arg6 harg6 arg7 harg7 h1 x1 ⟨n, hn⟩).mem p h
      · exact i2 p h
    · rcases List.mem_append.mp hp with h | h
      · exact (trip_scale 𝒱 bd c i arg2 harg2 arg3 harg3 arg4 harg4 arg5 harg5 arg6 harg6 arg7 harg7 h1 x1 ⟨n, hn⟩).mem p h
      · exact i3 p h

end Trip

section Case

variable (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (x0 : Vec F S768x5120 .bf16) (x1 : Vec F S5120x512 .f32)

theorem out_A_3 (hc0 : cond0_0 i) : out0_A_3 c i arg2 harg2 arg3 harg3 arg4 harg4 arg5 harg5 arg6 harg6 arg7 harg7 hc0 x0 x1 = panel .fp8e4m3 codesBlk x1 := by
  unfold out0_A_3
  rw [View.read_writes_eq_canon _ _ _ (cover0_A_3 c i arg2 harg2 arg3 harg3 arg4 harg4 arg5 harg5 arg6 harg6 arg7 harg7 hc0 x0 x1)]
  funext y
  exact View.canon_apply_of_pieces _ _ (pb_pieces Variants.none none c i arg2 harg2 arg3 harg3 arg4 harg4 arg5 harg5 arg6 harg6 arg7 harg7 hc0 x1 k0_t1_loop.trips (le_refl _)).1 y (cover0_A_3 c i arg2 harg2 arg3 harg3 arg4 harg4 arg5 harg5 arg6 harg6 arg7 harg7 hc0 x0 x1 y)

theorem out_A_4 (hc0 : cond0_0 i) : out0_A_4 c i arg2 harg2 arg3 harg3 arg4 harg4 arg5 harg5 arg6 harg6 arg7 harg7 hc0 x0 x1 = panel .bf16 wqBlk x1 := by
  unfold out0_A_4
  rw [View.read_writes_eq_canon _ _ _ (cover0_A_4 c i arg2 harg2 arg3 harg3 arg4 harg4 arg5 harg5 arg6 harg6 arg7 harg7 hc0 x0 x1)]
  funext y
  exact View.canon_apply_of_pieces _ _ (pb_pieces Variants.none none c i arg2 harg2 arg3 harg3 arg4 harg4 arg5 harg5 arg6 harg6 arg7 harg7 hc0 x1 k0_t1_loop.trips (le_refl _)).2.1 y (cover0_A_4 c i arg2 harg2 arg3 harg3 arg4 harg4 arg5 harg5 arg6 harg6 arg7 harg7 hc0 x0 x1 y)

theorem out_A_5 (hc0 : cond0_0 i) : out0_A_5 c i arg2 harg2 arg3 harg3 arg4 harg4 arg5 harg5 arg6 harg6 arg7 harg7 hc0 x0 x1 = panelScale x1 := by
  unfold out0_A_5
  rw [View.read_writes_eq_canon _ _ _ (cover0_A_5 c i arg2 harg2 arg3 harg3 arg4 harg4 arg5 harg5 arg6 harg6 arg7 harg7 hc0 x0 x1)]
  funext y
  exact View.canon_apply_of_pieces _ _ (pb_pieces Variants.none none c i arg2 harg2 arg3 harg3 arg4 harg4 arg5 harg5 arg6 harg6 arg7 harg7 hc0 x1 k0_t1_loop.trips (le_refl _)).2.2 y (cover0_A_5 c i arg2 harg2 arg3 harg3 arg4 harg4 arg5 harg5 arg6 harg6 arg7 harg7 hc0 x0 x1 y)

theorem hz : (![0, 0] : Fin 2 → Nat) = fun _ => 0 := funext fun a => by fin_cases a <;> rfl

theorem out_A_2 (hc0 : cond0_0 i) : out0_A_2 c i arg2 harg2 arg3 harg3 arg4 harg4 arg5 harg5 arg6 harg6 arg7 harg7 hc0 x0 x1 = k0_pay2 x0 (panel .bf16 wqBlk x1) := by
  have h4 := out_A_4 c i arg2 harg2 arg3 harg3 arg4 harg4 arg5 harg5 arg6 harg6 arg7 harg7 x0 x1 hc0
  unfold out0_A_4 at h4
  rw [View.read_writes_eq_canon _ _ _ (cover0_A_4 c i arg2 harg2 arg3 harg3 arg4 harg4 arg5 harg5 arg6 harg6 arg7 harg7 hc0 x0 x1)] at h4
  have hcov := cover0_A_4 c i arg2 harg2 arg3 harg3 arg4 harg4 arg5 harg5 arg6 harg6 arg7 harg7 hc0 x0 x1
  unfold out0_A_2
  rw [View.read_writes_eq_canon _ _ _ (cover0_A_2 c i arg2 harg2 arg3 harg3 arg4 harg4 arg5 harg5 arg6 harg6 arg7 harg7 hc0 x0 x1)]
  unfold kernelRun0_A at h4 hcov ⊢
  dsimp only at h4 hcov ⊢
  sl_unfold_words
  rw [View.canon_unit_zero hz, View.readAt_eq_ld, harg2.read_unread, View.ld_unit_zero (S := S768x5120) hz,
    View.readCov_eq_canon_ld _ _ _ hcov, View.ld_unit_zero (S := S5120x512) hz]
  exact congrArg (k0_pay2 x0) h4

theorem out_B_2 (hc0 : ¬cond0_0 i) (xo3 : Vec F S5120x512 .fp8e4m3) (xo4 : Vec F S5120x512 .bf16) (xo5 : Vec F S1x40x4 .f32) :
    out0_B_2 c i arg2 harg2 arg3 harg3 arg4 harg4 arg5 harg5 arg6 harg6 arg7 harg7 hc0 x0 x1 xo3 xo4 xo5 = k0_pay2 x0 xo4 := by
  unfold out0_B_2
  rw [View.read_writes_eq_canon _ _ _ (cover0_B_2 c i arg2 harg2 arg3 harg3 arg4 harg4 arg5 harg5 arg6 harg6 arg7 harg7 hc0 x0 x1 xo3 xo4 xo5)]
  unfold kernelRun0_B
  dsimp only
  sl_unfold_words
  rw [View.canon_unit_zero hz]
  simp only [View.readAt_eq_ld, harg2.read_unread, harg6.read_unread, View.ld_unit_zero (S := S768x5120) hz, View.ld_unit_zero (S := S5120x512) hz]

end Case

end Cert.FwdIdeal.Value
-- ==== Proof.FwdScalar.lean ====
module

public import Idealize.ShloMosaic.PureOps.Ideal.Laws
public import Idealize.ShloMosaic.Lib.Pointwise

/-! The scale of one block: the kernel counts the powers of two not above `amax / 448` and shifts the count into the exponent
    field of a word; the reference takes the floor of the logarithm to base two. Over the extended reals the two agree where
    `amax / 448` is zero or a normal number below `2 ^ 126`. -/

@[expose] public section

set_option maxRecDepth 16384

noncomputable section

namespace Cert.FwdScalar

open Idealize.ShloMosaic

/-- A count shifted into the exponent field. -/
abbrev word (n : BitVec 32) : BitVec 32 := IntOp.shli .vector n 23#32

theorem word_bits : ∀ k : Fin 256, ((word (BitVec.ofNat 32 k.val)).extractLsb' 31 1 == 1#1) = false
    ∧ ((word (BitVec.ofNat 32 k.val)).extractLsb' 23 8).toNat = k.val ∧ ((word (BitVec.ofNat 32 k.val)).extractLsb' 0 23).toNat = 0 := by
  decide +kernel

theorem bits_zero (b : BitVec 32) (e1 : (b.extractLsb' 31 1 == 1#1) = false) (e2 : (b.extractLsb' 23 8).toNat = 0) (e3 : (b.extractLsb' 0 23).toNat = 0) :
    Ideal.ofBits .f32 b = 0 := by
  show Ideal.ieee 8 23 b = _
  unfold Ideal.ieee
  dsimp only
  rw [e1, e2, e3]
  simp

theorem bits_top (b : BitVec 32) (e1 : (b.extractLsb' 31 1 == 1#1) = false) (e2 : (b.extractLsb' 23 8).toNat = 255) (e3 : (b.extractLsb' 0 23).toNat = 0) :
    Ideal.ofBits .f32 b = ⊤ := by
  show Ideal.ieee 8 23 b = _
  unfold Ideal.ieee
  dsimp only
  rw [e1, e2, e3]
  simp

theorem bits_val (b : BitVec 32) (k : ℕ) (h0 : 1 ≤ k) (h1 : k ≤ 254) (e1 : (b.extractLsb' 31 1 == 1#1) = false) (e2 : (b.extractLsb' 23 8).toNat = k) (e3 : (b.extractLsb' 0 23).toNat = 0) :
    Ideal.ofBits .f32 b = (((2 : ℝ) ^ ((k : ℤ) - 127) : ℝ) : EReal) := by
  show Ideal.ieee 8 23 b = _
  unfold Ideal.ieee
  dsimp only
  rw [e1, e2, e3, if_neg (by norm_num; omega), if_neg (by omega)]
  congr 1
  rw [show ((2 : ℝ) ^ ((k : ℤ) - 127)) = 2 ^ (23 : ℤ) * 2 ^ ((k : ℤ) - 127 - 23) by rw [← zpow_add₀ two_ne_zero]; congr 1; ring]
  norm_num

theorem word_zero : Ideal.ofBits .f32 (word (BitVec.ofNat 32 0)) = 0 :=
  bits_zero _ (word_bits 0).1 (word_bits 0).2.1 (word_bits 0).2.2

theorem word_top : Ideal.ofBits .f32 (word (BitVec.ofNat 32 255)) = ⊤ :=
  bits_top _ (word_bits 255).1 (word_bits 255).2.1 (word_bits 255).2.2

theorem word_val (k : ℕ) (h0 : 1 ≤ k) (h1 : k ≤ 254) : Ideal.ofBits .f32 (word (BitVec.ofNat 32 k)) = (((2 : ℝ) ^ ((k : ℤ) - 127) : ℝ) : EReal) :=
  have h := word_bits ⟨k, by omega⟩
  bits_val _ k h0 h1 h.1 h.2.1 h.2.2

/-- A power of two of the exponent field. -/
def pow (x : ℕ) : EReal := Ideal.ofBits .f32 (word (BitVec.ofNat 32 x))

theorem fold_count {ι : Type*} (S : Finset ι) (p : ι → Prop) [DecidablePred p] :
    Finset.fold IntOp.addi 0#32 (fun x => if p x then 0#32 else 1#32) S = BitVec.ofNat 32 (S.filter (fun x => ¬p x)).card := by
  classical
  induction S using Finset.induction_on with
  | empty => rfl
  | insert a S ha ih =>
    rw [Finset.fold_insert ha, ih, Finset.filter_insert]
    by_cases h : p a
    · rw [if_pos h, if_neg (not_not.mpr h)]
      exact BitVec.zero_add _
    · rw [if_neg h, if_pos h, Finset.card_insert_of_notMem (fun hm => ha (Finset.mem_filter.mp hm).1), Nat.add_comm, BitVec.ofNat_add]
      rfl

/-- The kernel's exponent field from `amax / 448`. -/
def field (a : EReal) : BitVec 32 :=
  Scalar.select
    (IntOp.cmpi .eq (IntOp.subi (Finset.fold IntOp.addi 0#32
      (fun x : Fin 256 => if a < pow x.val then 0#32 else 1#32) Finset.univ) 1#32) 0#32)
    127#32
    (IntOp.addi (IntOp.subi (Finset.fold IntOp.addi 0#32
      (fun x : Fin 256 => if a < pow x.val then 0#32 else 1#32) Finset.univ) 1#32) 1#32)

theorem field_bits : ∀ E : Fin 253,
    Scalar.select (IntOp.cmpi .eq (IntOp.subi (BitVec.ofNat 32 (E.val + 1)) 1#32) 0#32) 127#32 (IntOp.addi (IntOp.subi (BitVec.ofNat 32 (E.val + 1)) 1#32) 1#32)
      = BitVec.ofNat 32 (if E.val = 0 then 127 else E.val + 1) := by decide +kernel

theorem inv_bits : ∀ n : Fin 255, IntOp.subi 254#32 (BitVec.ofNat 32 n.val) = BitVec.ofNat 32 (254 - n.val) := by decide +kernel

theorem field_eq (a : EReal) (E : ℕ) (hE : E < 253) (h : ∀ x : Fin 256, a < pow x.val ↔ E < x.val) :
    field a = BitVec.ofNat 32 (if E = 0 then 127 else E + 1) := by
  have hc : Finset.fold IntOp.addi 0#32 (fun x : Fin 256 => if a < pow x.val then 0#32 else 1#32) Finset.univ
      = BitVec.ofNat 32 (E + 1) := by
    rw [fold_count]
    congr 1
    rw [Finset.filter_congr (q := fun x : Fin 256 => x ≤ (⟨E, by omega⟩ : Fin 256)) (fun x _ => by rw [h x, not_lt]; exact Iff.rfl)]
    rw [show Finset.univ.filter (fun x : Fin 256 => x ≤ (⟨E, by omega⟩ : Fin 256)) = Finset.Iic (⟨E, by omega⟩ : Fin 256) by ext x; simp, Fin.card_Iic]
  unfold field
  rw [hc]
  exact field_bits ⟨E, hE⟩

/-- The exponent the reference takes. -/
def refExp (A a : EReal) : EReal :=
  if A = 0 then 0 else Ideal.liftRound Int.floor (Ideal.div (Ideal.log a) (Ideal.log 2)) + 1

/-- A positive real lies below a power of two exactly where the floor of its logarithm does. -/
theorem lt_pow_iff (r : ℝ) (hr : 0 < r) (z : ℤ) : r < (2 : ℝ) ^ z ↔ ⌊Real.log r * (Real.log 2)⁻¹⌋ < z := by
  have hl : 0 < Real.log 2 := Real.log_pos (by norm_num)
  rw [Int.floor_lt, ← div_eq_mul_inv, div_lt_iff₀ hl, ← Real.log_zpow]
  exact (Real.log_lt_log_iff hr (by positivity)).symm

/-- Where `amax / 448` is a normal float below `2 ^ 126`. -/
theorem normal_field (a : EReal) (h0 : (((2 : ℝ) ^ (-126 : ℤ) : ℝ) : EReal) ≤ a) (h1 : a < (((2 : ℝ) ^ (126 : ℤ) : ℝ) : EReal)) :
    ∃ e : ℤ, -126 ≤ e ∧ e ≤ 125 ∧ field a = BitVec.ofNat 32 (e + 128).toNat
      ∧ Ideal.liftRound Int.floor (Ideal.div (Ideal.log a) (Ideal.log 2)) = ((e : ℝ) : EReal) := by
  induction a using EReal.rec with
  | bot => exact absurd h0 (not_le.mpr (EReal.bot_lt_coe _))
  | top => exact absurd h1 (not_lt.mpr le_top)
  | coe r =>
    have h0 := EReal.coe_le_coe_iff.mp h0
    have h1 := EReal.coe_lt_coe_iff.mp h1
    have hr : 0 < r := lt_of_lt_of_le (by positivity) h0
    have hL := lt_pow_iff r hr
    have hl : Real.log 2 ≠ 0 := (Real.log_pos (by norm_num)).ne'
    have hdiv : Ideal.liftRound Int.floor (Ideal.div (Ideal.log ((r : ℝ) : EReal)) (Ideal.log 2)) = (((⌊Real.log r * (Real.log 2)⁻¹⌋ : ℤ) : ℝ) : EReal) := by
      have e1 : Ideal.log ((r : ℝ) : EReal) = ((Real.log r : ℝ) : EReal) := if_neg (not_le.mpr hr)
      have e2 : Ideal.log 2 = ((Real.log 2 : ℝ) : EReal) := if_neg (by norm_num : ¬(2 : ℝ) ≤ 0)
      rw [e1, e2]
      unfold Ideal.div
      rw [if_neg (by exact_mod_cast hl), ← EReal.coe_inv, ← EReal.coe_mul]
      rfl
    generalize ⌊Real.log r * (Real.log 2)⁻¹⌋ = e at hL hdiv
    have l0 : -126 ≤ e := by
      by_contra h
      exact absurd ((hL (-126)).mpr (by omega)) (not_lt.mpr h0)
    have l1 : e < 126 := (hL 126).mp h1
    refine ⟨e, l0, by omega, ?_, ?_⟩
    · have hf := field_eq ((r : ℝ) : EReal) (e + 127).toNat (by omega) (fun x => ?_)
      · have hn : (e + 128).toNat = (e + 127).toNat + 1 := by omega
        rw [hn]
        exact hf.trans (congrArg (BitVec.ofNat 32) (if_neg (by omega)))
      · rcases Nat.eq_zero_or_pos x.val with hx | hx
        · rw [hx, show pow 0 = 0 from word_zero]
          constructor
          · intro h
            exact absurd (show r < 0 by exact_mod_cast h) (not_lt.mpr hr.le)
          · intro h; omega
        · rcases Nat.lt_or_ge x.val 255 with hx' | hx'
          · rw [show pow x.val = _ from word_val x.val hx (by omega), EReal.coe_lt_coe_iff]
            rw [hL]
            omega
          · have hx2 : x.val = 255 := by omega
            rw [hx2, show pow 255 = ⊤ from word_top]
            constructor
            · intro _; omega
            · intro _; exact EReal.coe_lt_top _
    · exact hdiv

theorem word_two (n : ℕ) (e : ℤ) (h0 : 1 ≤ n) (h1 : n ≤ 254) (he : (n : ℤ) - 127 = e) :
    Ideal.ofBits .f32 (word (BitVec.ofNat 32 n)) = Ideal.exp2 ((e : ℝ) : EReal) := by
  rw [word_val n h0 h1, he]
  show _ = ((Real.rpow 2 (e : ℝ) : ℝ) : EReal)
  congr 1
  exact (Real.rpow_intCast 2 e).symm

theorem field_zero : field 0 = BitVec.ofNat 32 127 := by
  rw [field_eq 0 0 (by decide) (fun x => ?_)]
  · rfl
  · rcases Nat.eq_zero_or_pos x.val with hx | hx
    · rw [hx, show pow 0 = 0 from word_zero]; exact ⟨fun h => absurd h (lt_irrefl _), fun h => absurd h (lt_irrefl _)⟩
    · rcases Nat.lt_or_ge x.val 255 with hx' | hx'
      · rw [show pow x.val = _ from word_val x.val hx (by omega)]
        exact ⟨fun _ => hx, fun _ => by exact_mod_cast (by positivity : (0 : ℝ) < 2 ^ ((x.val : ℤ) - 127))⟩
      · rw [show x.val = 255 by omega, show pow 255 = ⊤ from word_top]
        exact ⟨fun _ => by norm_num, fun _ => EReal.zero_lt_top⟩

/-- The kernel's scale and inverse scale are the reference's. -/
theorem scale_eq (A k : EReal) (h : A = 0 ∨ ((((2 : ℝ) ^ (-126 : ℤ) : ℝ) : EReal) ≤ A * k ∧ A * k < (((2 : ℝ) ^ (126 : ℤ) : ℝ) : EReal))) :
    Ideal.ofBits .f32 (word (field (A * k))) = Ideal.exp2 (refExp A (A * k))
    ∧ Ideal.ofBits .f32 (word (IntOp.subi 254#32 (field (A * k)))) = Ideal.exp2 (0 - refExp A (A * k)) := by
  by_cases hA : A = 0
  · rw [hA, zero_mul, field_zero]
    unfold refExp
    rw [if_pos rfl, inv_bits ⟨127, by decide⟩]
    have hz : (0 : EReal) = (((0 : ℤ) : ℝ) : EReal) := by norm_num
    rw [sub_zero]
    refine ⟨?_, ?_⟩ <;> rw [hz] <;> exact word_two 127 0 (by decide) (by decide) (by decide)
  · rcases h with h | ⟨h0, h1⟩
    · exact absurd h hA
    · obtain ⟨e, l0, l1, hf, hl⟩ := normal_field (A * k) h0 h1
      unfold refExp
      rw [if_neg hA, hl, hf, inv_bits ⟨(e + 128).toNat, by omega⟩]
      have hp : (((e : ℝ) : EReal) + 1) = (((e + 1 : ℤ) : ℝ) : EReal) := by push_cast; rfl
      have hm : (0 : EReal) - (((e : ℝ) : EReal) + 1) = (((-(e + 1) : ℤ) : ℝ) : EReal) := by
        rw [hp, zero_sub]; push_cast; rfl
      rw [hm, hp]
      exact ⟨word_two _ _ (by omega) (by omega) (by omega), word_two _ _ (by show 1 ≤ 254 - (e + 128).toNat; omega) (by show 254 - (e + 128).toNat ≤ 254; omega) (by show ((254 - (e + 128).toNat : ℕ) : ℤ) - 127 = _; omega)⟩

end Cert.FwdScalar
-- ==== Proof.FwdMath.lean ====
module

public import proofs.«01_k».proof.Proof.FwdScalar
public import proofs.«01_k».proof.Proof.Sums

/-! The forward pass as functions of `x` and `w`: the scale of each 128 x 128 block of the weight, the codes, the weight they
    stand for, and the product. -/

@[expose] public section

set_option maxRecDepth 16384

noncomputable section

open scoped BigOperators

namespace Cert.FwdMath

open Idealize.ShloMosaic Cert.FwdScalar Cert.Sums

/-- The reciprocal of the largest code, as the float both programs multiply by. -/
abbrev rmax : EReal := Ideal.ofBits .f32 0x3B124925#32
/-- The word both programs start a maximum from. -/
abbrev low : EReal := Ideal.ofBits .f32 0xFF800000#32

/-- The shape of one block. -/
abbrev Blk : Shape := ⟨2, ![128, 128]⟩
/-- The shape of the weight. -/
abbrev Wt : Shape := ⟨2, ![5120, 17920]⟩

theorem low_eq : low = ⊥ := by
  show Ideal.ieee 8 23 0xFF800000#32 = ⊥
  simp [Ideal.ieee]

/-- The largest magnitude of a block: over the columns, the largest of each column. -/
def mag (v : Blk.Idx → EReal) : EReal :=
  Finset.fold max low (fun x : Fin 128 => Finset.fold max low (fun y : Fin 128 => max (v (ix2 y x)) (-(v (ix2 y x)))) Finset.univ) Finset.univ

theorem mag_le (v : Blk.Idx → EReal) (B : EReal) : mag v ≤ B ↔ ∀ (y x : Fin 128), max (v (ix2 y x)) (-(v (ix2 y x))) ≤ B := by
  unfold mag
  rw [Finset.fold_max_le]
  simp only [Finset.fold_max_le, Finset.mem_univ, forall_true_left, low_eq, bot_le, true_and]
  exact forall_comm

/-- Block `(a, b)` of the weight. -/
def blk (w : Wt.Idx → EReal) (a b : ℕ) : Blk.Idx → EReal := fun p => at2 w (128 * a + (p 0).val) (128 * b + (p 1).val)

/-- The exponent of the scale of a block. -/
def rexp (v : Blk.Idx → EReal) : EReal := refExp (mag v) (mag v * rmax)

/-- A block whose `amax / 448` is zero or a normal number below `2 ^ 126`. -/
def Normal (v : Blk.Idx → EReal) : Prop :=
  mag v = 0 ∨ ((((2 : ℝ) ^ (-126 : ℤ) : ℝ) : EReal) ≤ mag v * rmax ∧ mag v * rmax < (((2 : ℝ) ^ (126 : ℤ) : ℝ) : EReal))

/-- The value of a code: the scaled weight clipped. -/
def clip (u : EReal) : EReal := min (Ideal.ofBits .f32 0x43E00000#32) (max (Ideal.ofBits .f32 0xC3E00000#32) u)

/-- The scale of block `(a, b)`. -/
def scaleN (w : Wt.Idx → EReal) (a b : ℕ) : EReal := Ideal.exp2 (rexp (blk w a b))
/-- The code at row `r`, column `s`. -/
def codeN (w : Wt.Idx → EReal) (r s : ℕ) : EReal := clip (at2 w r s * Ideal.exp2 (0 - rexp (blk w (r / 128) (s / 128))))
/-- The rounded weight at row `r`, column `s`. -/
def wqN (w : Wt.Idx → EReal) (r s : ℕ) : EReal := codeN w r s * scaleN w (r / 128) (s / 128)
/-- The product at token `t` of batch `b`, column `o`. -/
def yN (x : (⟨3, ![4, 1536, 5120]⟩ : Shape).Idx → EReal) (w : Wt.Idx → EReal) (b t o : ℕ) : EReal :=
  ∑ k : Fin 5120, at3 x b t k.val * wqN w k.val o

end Cert.FwdMath
-- ==== Proof.FwdQuant.lean ====
module

public import proofs.«01_k».proof.Proof.FwdPieces
public import proofs.«01_k».proof.Proof.FwdMath

/-! The quantiser of one 128 x 128 block, read at an index. -/

@[expose] public section

set_option maxRecDepth 16384

noncomputable section

open scoped BigOperators

namespace Cert.FwdIdeal.Quant

open Idealize.ShloMosaic Idealize.ShloMosaic.TcCoe
open Cert.FwdIdeal Cert.FwdIdeal.Gen Cert.FwdIdeal.Value Cert.FwdScalar Cert.FwdMath Cert.Sums

/-- The exponent field the kernel finds is that of the block's largest magnitude over 448. -/
theorem pay3_at (v : Vec Ideal S128x128 .f32) (j : S1x1.Idx) : k0_pay3 (F := Ideal) v j = field (mag v * rmax) := by
  pointwise [k0_pay3]
  unfold field mag pow word
  rfl

theorem pay4_at (v : Vec Ideal S128x128 .f32) (j : S1x1.Idx) : k0_pay4 (F := Ideal) v j = Ideal.ofBits .f32 (word (field (mag v * rmax))) := by
  pointwise [k0_pay4]
  rw [pay3_at]

theorem wq_at (v : Vec Ideal S128x128 .f32) (j : S128x128.Idx) : wqBlk (F := Ideal) v j =
    clip (v j * Ideal.ofBits .f32 (word (IntOp.subi 254#32 (field (mag v * rmax))))) * Ideal.ofBits .f32 (word (field (mag v * rmax))) := by
  pointwise [wqBlk, k0_pay7, k0_pay6, k0_pay5, k0_pay4]
  rw [pay3_at]
  rfl

theorem codes_at (v : Vec Ideal S128x128 .f32) (j : S128x128.Idx) : codesBlk (F := Ideal) v j =
    clip (v j * Ideal.ofBits .f32 (word (IntOp.subi 254#32 (field (mag v * rmax))))) := by
  pointwise [codesBlk, k0_pay6, k0_pay5]
  rw [pay3_at]
  rfl

/-- The product of a row block with a panel. -/
theorem pay2_at (x : Vec Ideal S768x5120 .bf16) (y : Vec Ideal S5120x512 .bf16) (j : S768x512.Idx) :
    k0_pay2 (F := Ideal) x y j = ∑ k : Fin 5120, x (ix2 (j 0) k) * y (ix2 k (j 1)) := by
  pointwise [k0_pay2]

/-- On a normal block the three results are the reference's. -/
theorem scale_normal (v : Vec Ideal S128x128 .f32) (h : Normal v) (j : S1x1.Idx) : scaleBlk (F := Ideal) v j = Ideal.exp2 (rexp v) :=
  (pay4_at v j).trans (scale_eq (mag v) rmax h).1

theorem codes_normal (v : Vec Ideal S128x128 .f32) (h : Normal v) (j : S128x128.Idx) : codesBlk (F := Ideal) v j = clip (v j * Ideal.exp2 (0 - rexp v)) := by
  rw [codes_at, (scale_eq (mag v) rmax h).2]
  rfl

theorem wq_normal (v : Vec Ideal S128x128 .f32) (h : Normal v) (j : S128x128.Idx) : wqBlk (F := Ideal) v j = clip (v j * Ideal.exp2 (0 - rexp v)) * Ideal.exp2 (rexp v) := by
  rw [wq_at, (scale_eq (mag v) rmax h).1, (scale_eq (mag v) rmax h).2]
  rfl

end Cert.FwdIdeal.Quant
-- ==== Proof.FwdValue.lean ====
module

public import proofs.«01_k».proof.Proof.FwdRun
public import proofs.«01_k».proof.Proof.FwdQuant

/-! The forward pass: each column panel of the weight is quantised block by block at the first of its eight points and kept for
    the other seven; every point multiplies its rows of `x` with the rounded panel. -/

@[expose] public section

set_option maxRecDepth 16384

noncomputable section

open scoped BigOperators

namespace Cert.FwdIdeal.Val

open Cert.FwdIdeal Cert.FwdIdeal.Gen Cert.FwdIdeal.Value Cert.FwdIdeal.Quant Cert.FwdMath Cert.Sums Idealize.ShloMosaic Idealize.ShloMosaic.TcCoe Idealize.SL.Sem
open Idealize.ShloMosaic.Pipeline (Dat)

/-- Column panel `n` of the weight. -/
def pan (w : Wt.Idx → EReal) (n : ℕ) : Vec Ideal S5120x512 .f32 := fun y => at2 w (y 0).val (512 * n + (y 1).val)

/-- A block of a panel is a block of the weight. -/
theorem tile_pan (w : Wt.Idx → EReal) (n a b : ℕ) (ha : a < 40) (hb : b < 4) : tile (pan w n) a b ha hb = blk w a (4 * n + b) := by
  funext p
  show at2 w (128 * a + (p 0).val) (512 * n + (128 * b + (p 1).val)) = at2 w (128 * a + (p 0).val) (128 * (4 * n + b) + (p 1).val)
  rw [show 512 * n + (128 * b + (p 1).val) = 128 * (4 * n + b) + (p 1).val by omega]

section Panels

variable (w : Wt.Idx → EReal) (hN : ∀ a b : ℕ, a < 40 → b < 140 → Normal (blk w a b)) (n : ℕ) (hn : n < 35)

theorem blk_in (y : S5120x512.Idx) : blk w ((y 0).val / 128) (4 * n + (y 1).val / 128)
      (ValueIdx.ix2 ⟨(y 0).val % 128, Nat.mod_lt _ (by decide)⟩ ⟨(y 1).val % 128, Nat.mod_lt _ (by decide)⟩) = at2 w (y 0).val (512 * n + (y 1).val) := by
  show at2 w (128 * ((y 0).val / 128) + (y 0).val % 128) (128 * (4 * n + (y 1).val / 128) + (y 1).val % 128) = _
  rw [show 128 * ((y 0).val / 128) + (y 0).val % 128 = (y 0).val by omega,
    show 128 * (4 * n + (y 1).val / 128) + (y 1).val % 128 = 512 * n + (y 1).val by omega]

include hN hn in
theorem codes_pan (y : S5120x512.Idx) : panel .fp8e4m3 codesBlk (pan w n) y = codeN w (y 0).val (512 * n + (y 1).val) := by
  have h0 : (y 0).val < 5120 := (y 0).isLt
  have h1 : (y 1).val < 512 := (y 1).isLt
  unfold panel
  rw [tile_pan, codes_normal _ (hN _ _ (by omega) (by omega)), blk_in]
  unfold codeN
  rw [show (512 * n + (y 1).val) / 128 = 4 * n + (y 1).val / 128 by omega]

include hN hn in
theorem wq_pan (y : S5120x512.Idx) : panel .bf16 wqBlk (pan w n) y = wqN w (y 0).val (512 * n + (y 1).val) := by
  have h0 : (y 0).val < 5120 := (y 0).isLt
  have h1 : (y 1).val < 512 := (y 1).isLt
  unfold panel
  rw [tile_pan, wq_normal _ (hN _ _ (by omega) (by omega)), blk_in]
  unfold wqN codeN scaleN
  rw [show (512 * n + (y 1).val) / 128 = 4 * n + (y 1).val / 128 by omega]

include hN hn in
theorem scale_pan (y : S1x40x4.Idx) : panelScale (pan w n) y = scaleN w (y 1).val (4 * n + (y 2).val) := by
  have h1 : (y 1).val < 40 := (y 1).isLt
  have h2 : (y 2).val < 4 := (y 2).isLt
  unfold panelScale
  refine (congrFun (congrArg scaleBlk (tile_pan w n (y 1).val (y 2).val h1 h2)) _).trans ?_
  exact scale_normal _ (hN _ _ (by omega) (by omega)) _

end Panels

variable (m : (ℓ : Loc nD τ sig) → Buf (Elt Ideal) ℓ) (ρ : Dev nD → PrngReg)

/-- The activations as launched. -/
abbrev X (c : Dev nD) : S4x1536x5120.Idx → EReal := m ((c : Thread nD τ).loc main_arg0)
/-- The weight as launched. -/
abbrev W (c : Dev nD) : S5120x17920.Idx → EReal := m ((c : Thread nD τ).loc main_arg1)

theorem V_v0 (c : Dev nD) : V m c main_v0 = shapeCast S6144x5120 (m ((c : Thread nD τ).loc main_arg0)) shapeCasts_S4x1536x5120_S6144x5120 := by
  show StableHlo.after hostOps0 (fun b => m (c, b)) (main_v0 : Ref sig .tc) = _
  after_results; rfl

/-- The windows' block indices over the grid. -/
theorem idx_facts : ∀ t : Fin cfg0.N, win0_0.index t (0 : Fin 2) = t.val % 8 ∧ win0_0.index t (1 : Fin 2) = 0
    ∧ win0_1.index t (0 : Fin 2) = 0 ∧ win0_1.index t (1 : Fin 2) = t.val / 8
    ∧ win0_2.index t (0 : Fin 2) = t.val % 8 ∧ win0_2.index t (1 : Fin 2) = t.val / 8 :=
  (by decide +kernel : ∀ t : Fin grid0.N, _)
theorem idx_facts' : ∀ t : Fin cfg0.N, win0_3.index t (0 : Fin 2) = 0 ∧ win0_3.index t (1 : Fin 2) = t.val / 8
    ∧ win0_4.index t (0 : Fin 2) = 0 ∧ win0_4.index t (1 : Fin 2) = t.val / 8
    ∧ win0_5.index t (0 : Fin 3) = t.val / 8 ∧ win0_5.index t (1 : Fin 3) = 0 ∧ win0_5.index t (2 : Fin 3) = 0 :=
  (by decide +kernel : ∀ t : Fin grid0.N, _)

theorem t_lt (t : Fin cfg0.N) : t.val < 280 := lt_of_lt_of_eq t.isLt N_0

/-- The rows of `x` at a point. -/
theorem iblk0 (c : Dev nD) (t : Fin cfg0.N) (y : S768x5120.Idx) : (iblk m c 0 t : Vec Ideal S768x5120 .bf16) y
    = at3 (X m c) ((t.val % 8 * 768 + (y 0).val) / 1536) ((t.val % 8 * 768 + (y 0).val) % 1536) (y 1).val := by
  obtain ⟨e0, e1, e2, e3, e4, e5⟩ := idx_facts t
  unfold iblk
  rw [View.read_apply]
  show V m c main_v0 (((cfg0.win 0).blk t).view.emb y) = _
  rw [V_v0, tokens_apply (C := 5120)]
  have h0 : (((cfg0.win 0).blk t).view.emb y 0).val = win0_0.index t (0 : Fin 2) * 768 + 1 * (y 0).val := rfl
  have h1 : (((cfg0.win 0).blk t).view.emb y 1).val = win0_0.index t (1 : Fin 2) * 5120 + 1 * (y 1).val := rfl
  rw [h0, h1, e0, e1, Nat.one_mul, Nat.one_mul, Nat.zero_mul, Nat.zero_add]

/-- The weight's block at a point is a column panel. -/
theorem iblk1 (c : Dev nD) (t : Fin cfg0.N) : (iblk m c 1 t : Vec Ideal S5120x512 .f32) = pan (W m c) (t.val / 8) := by
  obtain ⟨e0, e1, e2, e3, e4, e5⟩ := idx_facts t
  funext y
  unfold iblk pan
  rw [View.read_apply]
  show V m c main_arg1 (((cfg0.win 1).blk t).view.emb y) = _
  rw [V_main_arg1]
  have h0 : (((cfg0.win 1).blk t).view.emb y 0).val = win0_1.index t (0 : Fin 2) * 5120 + 1 * (y 0).val := rfl
  have h1 : (((cfg0.win 1).blk t).view.emb y 1).val = win0_1.index t (1 : Fin 2) * 512 + 1 * (y 1).val := rfl
  refine (at2_eq _ _ _ _ ?_ ?_).symm
  · rw [h0, e2, Nat.one_mul, Nat.zero_mul, Nat.zero_add]
  · rw [h1, e3, Nat.one_mul, Nat.mul_comm]

/-- After every point the three weight results' buffers hold those of the point's panel. -/
theorem kept (c : Dev nD) : ∀ (n : ℕ) (hn : n < cfg0.N), (outsAt0 m c n hn).2
    = (panel .fp8e4m3 codesBlk (pan (W m c) (n / 8)), panel .bf16 wqBlk (pan (W m c) (n / 8)), panelScale (pan (W m c) (n / 8)))
  | 0, hn => by
    rw [outsAt0_A m c ⟨0, hn⟩ (by show 0 % 8 = 0; omega)]
    dsimp only
    rw [out_A_3, out_A_4, out_A_5, iblk1]
  | n + 1, hn => by
    by_cases h : (n + 1) % 8 = 0
    · rw [outsAt0_A m c ⟨n + 1, hn⟩ h]
      dsimp only
      rw [out_A_3, out_A_4, out_A_5, iblk1]
    · rw [outsAt0_B m c ⟨n + 1, hn⟩ h]
      have ih := kept c n (Nat.lt_of_succ_lt hn)
      rw [show n / 8 = (n + 1) / 8 by omega] at ih
      exact ih

/-- After every point the product's buffer holds the point's rows of `x` times its rounded panel. -/
theorem prod (c : Dev nD) (t : Fin cfg0.N) : (outsAt0 m c t.val t.isLt).1
    = k0_pay2 (F := Ideal) (iblk m c 0 t) (panel .bf16 wqBlk (pan (W m c) (t.val / 8))) := by
  by_cases h : t.val % 8 = 0
  · rw [outsAt0_A m c t h]
    dsimp only
    rw [out_A_2, iblk1]
  · rw [outsAt0_B m c t h]
    dsimp only
    rw [out_B_2, kept m c]
    rw [show (t.val - 1) / 8 = t.val / 8 by omega]

/-- The four arrays the run leaves. -/
def GY (c : Dev nD) : S6144x17920.Idx → EReal := fun i => yN (X m c) (W m c) ((i 0).val / 1536) ((i 0).val % 1536) (i 1).val
def GC (c : Dev nD) : S5120x17920.Idx → EReal := fun i => codeN (W m c) (i 0).val (i 1).val
def GW (c : Dev nD) : S5120x17920.Idx → EReal := fun i => wqN (W m c) (i 0).val (i 1).val
def GS (c : Dev nD) : S35x40x4.Idx → EReal := fun i => scaleN (W m c) (i 1).val (4 * (i 0).val + (i 2).val)

section Final

variable (c : Dev nD) (hN : ∀ a b : ℕ, a < 40 → b < 140 → Normal (blk (W m c) a b))

include hN in
theorem y_at (t : Fin cfg0.N) (j : S768x512.Idx) : (outsAt0 m c t.val t.isLt).1 j
    = yN (X m c) (W m c) ((t.val % 8 * 768 + (j 0).val) / 1536) ((t.val % 8 * 768 + (j 0).val) % 1536) (512 * (t.val / 8) + (j 1).val) := by
  have ht := t_lt t
  rw [prod, pay2_at]
  unfold yN
  refine Finset.sum_congr rfl fun k _ => ?_
  refine congrArg₂ (· * ·) (iblk0 m c t (ix2 (j 0) k)) (wq_pan (W m c) hN (t.val / 8) (by omega) (ix2 k (j 1)))

include hN in
theorem flushed2 (t : Fin cfg0.N) : (dats m 0 c).flushed 2 t = ((cfg0.win 2).blk t).view.read (Elt Ideal)
      (GY m c : Buf (Elt Ideal) ((c : Thread nD τ).loc main_v1_0)) := by
  obtain ⟨e0, e1, e2, e3, e4, e5⟩ := idx_facts t
  show (cfg0.win 2).cut (grid0.coords t) ((dats m 0 c).after 2 t) = _
  rw [after0_2]
  have key := y_at m c hN t
  generalize (outsAt0 m c t.val t.isLt).1 = o at key ⊢
  funext y
  rw [View.read_apply]
  refine (key _).trans ?_
  have hb0 : (((cfg0.win 2).blk t).view.emb y 0).val = t.val % 8 * 768 + (y 0).val :=
    (show _ = win0_2.index t (0 : Fin 2) * 768 + 1 * (y 0).val from rfl).trans (by rw [e4, Nat.one_mul])
  have hb1 : (((cfg0.win 2).blk t).view.emb y 1).val = 512 * (t.val / 8) + (y 1).val :=
    (show _ = win0_2.index t (1 : Fin 2) * 512 + 1 * (y 1).val from rfl).trans (by rw [e5, Nat.one_mul, Nat.mul_comm])
  have hx0 : (((cfg0.win 2).xinj (grid0.coords t) y) 0).val = (y 0).val := rfl
  have hx1 : (((cfg0.win 2).xinj (grid0.coords t) y) 1).val = (y 1).val := rfl
  unfold GY
  rw [hb0, hb1]
  refine Eq.trans ?_ (cast_eq rfl _).symm
  rw [hx0, hx1]

include hN in
theorem flushed3 (t : Fin cfg0.N) : (dats m 0 c).flushed 3 t = ((cfg0.win 3).blk t).view.read (Elt Ideal)
      (GC m c : Buf (Elt Ideal) ((c : Thread nD τ).loc main_v1_1)) := by
  obtain ⟨e0, e1, e2, e3, e4, e5, e6⟩ := idx_facts' t
  have ht := t_lt t
  show (cfg0.win 3).cut (grid0.coords t) ((dats m 0 c).after 3 t) = _
  rw [after0_3]
  have key : ∀ j : S5120x512.Idx, (outsAt0 m c t.val t.isLt).2.1 j = codeN (W m c) (j 0).val (512 * (t.val / 8) + (j 1).val) := fun j =>
    (congrFun (congrArg (·.1) (kept m c t.val t.isLt)) j).trans (codes_pan (W m c) hN (t.val / 8) (by omega) j)
  generalize (outsAt0 m c t.val t.isLt).2.1 = o at key ⊢
  funext y
  rw [View.read_apply]
  refine (key _).trans ?_
  have hb0 : (((cfg0.win 3).blk t).view.emb y 0).val = (y 0).val :=
    (show _ = win0_3.index t (0 : Fin 2) * 5120 + 1 * (y 0).val from rfl).trans (by rw [e0, Nat.one_mul, Nat.zero_mul, Nat.zero_add])
  have hb1 : (((cfg0.win 3).blk t).view.emb y 1).val = 512 * (t.val / 8) + (y 1).val :=
    (show _ = win0_3.index t (1 : Fin 2) * 512 + 1 * (y 1).val from rfl).trans (by rw [e1, Nat.one_mul, Nat.mul_comm])
  have hx0 : (((cfg0.win 3).xinj (grid0.coords t) y) 0).val = (y 0).val := rfl
  have hx1 : (((cfg0.win 3).xinj (grid0.coords t) y) 1).val = (y 1).val := rfl
  unfold GC
  rw [hb0, hb1]
  refine Eq.trans ?_ (cast_eq rfl _).symm
  rw [hx0, hx1]

include hN in
theorem flushed4 (t : Fin cfg0.N) : (dats m 0 c).flushed 4 t = ((cfg0.win 4).blk t).view.read (Elt Ideal)
      (GW m c : Buf (Elt Ideal) ((c : Thread nD τ).loc main_v1_2)) := by
  obtain ⟨e0, e1, e2, e3, e4, e5, e6⟩ := idx_facts' t
  have ht := t_lt t
  show (cfg0.win 4).cut (grid0.coords t) ((dats m 0 c).after 4 t) = _
  rw [after0_4]
  have key : ∀ j : S5120x512.Idx, (outsAt0 m c t.val t.isLt).2.2.1 j = wqN (W m c) (j 0).val (512 * (t.val / 8) + (j 1).val) := fun j =>
    (congrFun (congrArg (·.2.1) (kept m c t.val t.isLt)) j).trans (wq_pan (W m c) hN (t.val / 8) (by omega) j)
  generalize (outsAt0 m c t.val t.isLt).2.2.1 = o at key ⊢
  funext y
  rw [View.read_apply]
  refine (key _).trans ?_
  have hb0 : (((cfg0.win 4).blk t).view.emb y 0).val = (y 0).val :=
    (show _ = win0_4.index t (0 : Fin 2) * 5120 + 1 * (y 0).val from rfl).trans (by rw [e2, Nat.one_mul, Nat.zero_mul, Nat.zero_add])
  have hb1 : (((cfg0.win 4).blk t).view.emb y 1).val = 512 * (t.val / 8) + (y 1).val :=
    (show _ = win0_4.index t (1 : Fin 2) * 512 + 1 * (y 1).val from rfl).trans (by rw [e3, Nat.one_mul, Nat.mul_comm])
  have hx0 : (((cfg0.win 4).xinj (grid0.coords t) y) 0).val = (y 0).val := rfl
  have hx1 : (((cfg0.win 4).xinj (grid0.coords t) y) 1).val = (y 1).val := rfl
  unfold GW
  rw [hb0, hb1]
  refine Eq.trans ?_ (cast_eq rfl _).symm
  rw [hx0, hx1]

include hN in
theorem flushed5 (t : Fin cfg0.N) : (dats m 0 c).flushed 5 t = ((cfg0.win 5).blk t).view.read (Elt Ideal)
      (GS m c : Buf (Elt Ideal) ((c : Thread nD τ).loc main_v1_3)) := by
  obtain ⟨e0, e1, e2, e3, e4, e5, e6⟩ := idx_facts' t
  have ht := t_lt t
  show (cfg0.win 5).cut (grid0.coords t) ((dats m 0 c).after 5 t) = _
  rw [after0_5]
  have key : ∀ j : S1x40x4.Idx, (outsAt0 m c t.val t.isLt).2.2.2 j = scaleN (W m c) (j 1).val (4 * (t.val / 8) + (j 2).val) := fun j =>
    (congrFun (congrArg (·.2.2) (kept m c t.val t.isLt)) j).trans (scale_pan (W m c) hN (t.val / 8) (by omega) j)
  generalize (outsAt0 m c t.val t.isLt).2.2.2 = o at key ⊢
  funext y
  rw [View.read_apply]
  refine (key _).trans ?_
  have hy0 : (y 0).val < 1 := (y 0).isLt
  have hb0 : (((cfg0.win 5).blk t).view.emb y 0).val = t.val / 8 :=
    (show _ = win0_5.index t (0 : Fin 3) * 1 + 1 * (y 0).val from rfl).trans (by rw [e4]; omega)
  have hb1 : (((cfg0.win 5).blk t).view.emb y 1).val = (y 1).val :=
    (show _ = win0_5.index t (1 : Fin 3) * 40 + 1 * (y 1).val from rfl).trans (by rw [e5, Nat.one_mul, Nat.zero_mul, Nat.zero_add])
  have hb2 : (((cfg0.win 5).blk t).view.emb y 2).val = (y 2).val :=
    (show _ = win0_5.index t (2 : Fin 3) * 4 + 1 * (y 2).val from rfl).trans (by rw [e6, Nat.one_mul, Nat.zero_mul, Nat.zero_add])
  have hx1 : (((cfg0.win 5).xinj (grid0.coords t) y) 1).val = (y 1).val := rfl
  have hx2 : (((cfg0.win 5).xinj (grid0.coords t) y) 2).val = (y 2).val := rfl
  unfold GS
  rw [hb0, hb1, hb2]
  refine Eq.trans ?_ (cast_eq rfl _).symm
  rw [hx1, hx2]

/-- An index is in a point's block when each coordinate is in the block's range. -/
theorem mem_blk2 (t : Fin cfg0.N) (i : S6144x17920.Idx) :
    i ∈ ((cfg0.win 2).blk t).view.set ↔ ∀ a : Fin 2, win0_2.index t a * S768x512.size a ≤ (i a).val ∧ (i a).val < win0_2.index t a * S768x512.size a + S768x512.size a := by
  show i ∈ ((View.whole main_v1_0).slice (win0_2.rect t)).set ↔ _
  rw [View.set_slice_whole, Rect.mem_set_unit]
  exact Iff.rfl
theorem mem_blk3 (t : Fin cfg0.N) (i : S5120x17920.Idx) :
    i ∈ ((cfg0.win 3).blk t).view.set ↔ ∀ a : Fin 2, win0_3.index t a * S5120x512.size a ≤ (i a).val ∧ (i a).val < win0_3.index t a * S5120x512.size a + S5120x512.size a := by
  show i ∈ ((View.whole main_v1_1).slice (win0_3.rect t)).set ↔ _
  rw [View.set_slice_whole, Rect.mem_set_unit]
  exact Iff.rfl
theorem mem_blk4 (t : Fin cfg0.N) (i : S5120x17920.Idx) :
    i ∈ ((cfg0.win 4).blk t).view.set ↔ ∀ a : Fin 2, win0_4.index t a * S5120x512.size a ≤ (i a).val ∧ (i a).val < win0_4.index t a * S5120x512.size a + S5120x512.size a := by
  show i ∈ ((View.whole main_v1_2).slice (win0_4.rect t)).set ↔ _
  rw [View.set_slice_whole, Rect.mem_set_unit]
  exact Iff.rfl
theorem mem_blk5 (t : Fin cfg0.N) (i : S35x40x4.Idx) :
    i ∈ ((cfg0.win 5).blk t).view.set ↔ ∀ a : Fin 3, win0_5.index t a * S1x40x4.size a ≤ (i a).val ∧ (i a).val < win0_5.index t a * S1x40x4.size a + S1x40x4.size a := by
  show i ∈ ((View.whole main_v1_3).slice (win0_5.rect t)).set ↔ _
  rw [View.set_slice_whole, Rect.mem_set_unit]
  exact Iff.rfl

include hN in
theorem final2 : (dats m 0 c).arrAt 2 cfg0.N = (GY m c : Buf (Elt Ideal) ((c : Thread nD τ).loc main_v1_0)) :=
  (dats m 0 c).arrAt_eq_of_cover 2 _ (fun t _ => flushed2 m c hN t) fun i => by
    have h0 : (i 0).val < 6144 := (i 0).isLt
    have h1 : (i 1).val < 17920 := (i 1).isLt
    let t : Fin cfg0.N := ⟨8 * ((i 1).val / 512) + (i 0).val / 768, lt_of_lt_of_eq (by omega) N_0.symm⟩
    have ht : t.val = 8 * ((i 1).val / 512) + (i 0).val / 768 := rfl
    obtain ⟨e0, e1, e2, e3, e4, e5⟩ := idx_facts t
    refine ⟨t, flush0_2 t, ?_⟩
    rw [mem_blk2]
    intro a
    match a with
    | ⟨0, _⟩ => show win0_2.index t (0 : Fin 2) * 768 ≤ (i 0).val ∧ (i 0).val < win0_2.index t (0 : Fin 2) * 768 + 768; omega
    | ⟨1, _⟩ => show win0_2.index t (1 : Fin 2) * 512 ≤ (i 1).val ∧ (i 1).val < win0_2.index t (1 : Fin 2) * 512 + 512; omega

include hN in
theorem final3 : (dats m 0 c).arrAt 3 cfg0.N = (GC m c : Buf (Elt Ideal) ((c : Thread nD τ).loc main_v1_1)) :=
  (dats m 0 c).arrAt_eq_of_cover 3 _ (fun t _ => flushed3 m c hN t) fun i => by
    have h0 : (i 0).val < 5120 := (i 0).isLt
    have h1 : (i 1).val < 17920 := (i 1).isLt
    let t : Fin cfg0.N := ⟨8 * ((i 1).val / 512) + 7, lt_of_lt_of_eq (by omega) N_0.symm⟩
    have ht : t.val = 8 * ((i 1).val / 512) + 7 := rfl
    obtain ⟨e0, e1, e2, e3, e4, e5, e6⟩ := idx_facts' t
    refine ⟨t, (flush0_3 t).mpr (by omega), ?_⟩
    rw [mem_blk3]
    intro a
    match a with
    | ⟨0, _⟩ => show win0_3.index t (0 : Fin 2) * 5120 ≤ (i 0).val ∧ (i 0).val < win0_3.index t (0 : Fin 2) * 5120 + 5120; omega
    | ⟨1, _⟩ => show win0_3.index t (1 : Fin 2) * 512 ≤ (i 1).val ∧ (i 1).val < win0_3.index t (1 : Fin 2) * 512 + 512; omega

include hN in
theorem final4 : (dats m 0 c).arrAt 4 cfg0.N = (GW m c : Buf (Elt Ideal) ((c : Thread nD τ).loc main_v1_2)) :=
  (dats m 0 c).arrAt_eq_of_cover 4 _ (fun t _ => flushed4 m c hN t) fun i => by
    have h0 : (i 0).val < 5120 := (i 0).isLt
    have h1 : (i 1).val < 17920 := (i 1).isLt
    let t : Fin cfg0.N := ⟨8 * ((i 1).val / 512) + 7, lt_of_lt_of_eq (by omega) N_0.symm⟩
    have ht : t.val = 8 * ((i 1).val / 512) + 7 := rfl
    obtain ⟨e0, e1, e2, e3, e4, e5, e6⟩ := idx_facts' t
    refine ⟨t, (flush0_4 t).mpr (by omega), ?_⟩
    rw [mem_blk4]
    intro a
    match a with
    | ⟨0, _⟩ => show win0_4.index t (0 : Fin 2) * 5120 ≤ (i 0).val ∧ (i 0).val < win0_4.index t (0 : Fin 2) * 5120 + 5120; omega
    | ⟨1, _⟩ => show win0_4.index t (1 : Fin 2) * 512 ≤ (i 1).val ∧ (i 1).val < win0_4.index t (1 : Fin 2) * 512 + 512; omega

include hN in
theorem final5 : (dats m 0 c).arrAt 5 cfg0.N = (GS m c : Buf (Elt Ideal) ((c : Thread nD τ).loc main_v1_3)) :=
  (dats m 0 c).arrAt_eq_of_cover 5 _ (fun t _ => flushed5 m c hN t) fun i => by
    have h0 : (i 0).val < 35 := (i 0).isLt
    have h1 : (i 1).val < 40 := (i 1).isLt
    have h2 : (i 2).val < 4 := (i 2).isLt
    let t : Fin cfg0.N := ⟨8 * (i 0).val + 7, lt_of_lt_of_eq (by omega) N_0.symm⟩
    have ht : t.val = 8 * (i 0).val + 7 := rfl
    obtain ⟨e0, e1, e2, e3, e4, e5, e6⟩ := idx_facts' t
    refine ⟨t, (flush0_5 t).mpr (by omega), ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 40 ≤ (i 1).val ∧ (i 1).val < win0_5.index t (1 : Fin 3) * 40 + 40; omega
    | ⟨2, _⟩ => show win0_5.index t (2 : Fin 3) * 4 ≤ (i 2).val ∧ (i 2).val < win0_5.index t (2 : Fin 3) * 4 + 4; omega

end Final

/-- The product with its tokens split into batch and position. -/
theorem y_split (c : Dev nD) (j : S4x1536x17920.Idx) : shapeCast S4x1536x17920 (GY m c) shapeCasts_S6144x17920_S4x1536x17920 j
    = yN (X m c) (W m c) (j 0).val (j 1).val (j 2).val := by
  have h0 : (j 0).val < 4 := (j 0).isLt
  have h1 : (j 1).val < 1536 := (j 1).isLt
  have h2 : (j 2).val < 17920 := (j 2).isLt
  let k : S6144x17920.Idx := ValueIdx.ix2 ⟨(j 0).val * 1536 + (j 1).val, by omega⟩ ⟨(j 2).val, h2⟩
  rw [shapeCast_apply (GY m c) _ j k (by rw [Shape.rowMajor_val_three, Shape.rowMajor_val_two]; rfl)]
  show yN _ _ (((j 0).val * 1536 + (j 1).val) / 1536) (((j 0).val * 1536 + (j 1).val) % 1536) (j 2).val = _
  rw [show ((j 0).val * 1536 + (j 1).val) / 1536 = (j 0).val by omega, show ((j 0).val * 1536 + (j 1).val) % 1536 = (j 1).val by omega]

theorem turn (g : S35x40x4.Idx → EReal) (j : S40x140.Idx) :
    shapeCast S40x140 (transpose S40x35x4 [1, 0, 2] g transposes_S35x40x4_S40x35x4_1_0_2) shapeCasts_S40x35x4_S40x140 j
    = g (ValueIdx.ix3 ⟨(j 1).val / 4, by have h : (j 1).val < 140 := (j 1).isLt; omega⟩ (j 0) ⟨(j 1).val % 4, Nat.mod_lt _ (by decide)⟩) := by
  have h0 : (j 0).val < 40 := (j 0).isLt
  have h1 : (j 1).val < 140 := (j 1).isLt
  let k : S40x35x4.Idx := ValueIdx.ix3 (j 0) ⟨(j 1).val / 4, by omega⟩ ⟨(j 1).val % 4, Nat.mod_lt _ (by decide)⟩
  rw [shapeCast_apply _ _ j k (by
    rw [Shape.rowMajor_val_three, Shape.rowMajor_val_two]
    show ((j 0).val * 35 + (j 1).val / 4) * 4 + (j 1).val % 4 = (j 0).val * 140 + (j 1).val
    omega)]
  unfold transpose
  congr 1
  funext d
  match d with
  | ⟨0, _⟩ => rfl
  | ⟨1, _⟩ => rfl
  | ⟨2, _⟩ => rfl

/-- The scales with the panels' columns joined. -/
theorem s_join (c : Dev nD) (j : S40x140.Idx) :
    shapeCast S40x140 (transpose S40x35x4 [1, 0, 2] (GS m c) transposes_S35x40x4_S40x35x4_1_0_2) shapeCasts_S40x35x4_S40x140 j
    = scaleN (W m c) (j 0).val (j 1).val := by
  rw [turn]
  show scaleN _ (j 0).val (4 * ((j 1).val / 4) + (j 1).val % 4) = _
  rw [show 4 * ((j 1).val / 4) + (j 1).val % 4 = (j 1).val by omega]

end Cert.FwdIdeal.Val

end
-- ==== Proof.RefFwdRun.lean ====
module

public import proofs.«01_k».proof.Proof.Gen.RefFwdIdeal.Frame
public import Idealize.ShloMosaic.Lib.Pipeline.Value

/-! The reference's run: each output array after it is one function of the argument arrays. -/

@[expose] public section

noncomputable section

namespace Cert.RefFwdIdeal.Value

open Cert.RefFwdIdeal Cert.RefFwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 2's array: the body's result for that window (`Gen.out0_2`: its stores
    as pieces over the input windows' blocks), read through the window's block. -/
theorem flushed2 (c : Dev nD) (t : Fin cfg0.N) :
    (dats m 0 c).flushed 2 t = (cfg0.win 2).cut (grid0.coords t) (out0_2 (iblk m c 0 t) (iblk m c 1 t)) := by
  show (cfg0.win 2).cut (grid0.coords t) ((dats m 0 c).after 2 t) = _
  rw [after0_2]

/-- The index map sends distinct grid points to distinct block indices (decided over the 1 point). -/
theorem idx_inj2 : ∀ t t' : Fin cfg0.N, win0_2.index t = win0_2.index t' → t = t' :=
  (by decide +kernel : ∀ t t' : Fin grid0.N, win0_2.index t = win0_2.index t' → t = t')

/-- So two flushing points' blocks share no array index (Lib/Pipeline/Cells.lean `Window.disjoint_blk`). -/
theorem disjoint2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (idx_inj2 t t' h)

/-- BLOCK `t` OF THE FINAL ARRAY, read back through the window, is what point `t` wrote back (`flushed2`), for every
    point that writes back: no other point's block meets it. -/
theorem blocks2 (c : Dev nD) (t : Fin cfg0.N) (hf : (cfg0.win 2).flush t = true) :
    ((cfg0.win 2).blk t).view.read (Elt F) ((dats m 0 c).arrAt 2 cfg0.N) = (dats m 0 c).flushed 2 t :=
  (dats m 0 c).read_blk_arrAt_eq_flushed 2 disjoint2 cfg0.N t t.isLt hf

/-- An index that no flushing point's block covers keeps output window 2's array contents at region entry. -/
theorem entry2 (c : Dev nD) (i : S4x1536x17920.Idx) (h : ∀ t : Fin cfg0.N, (cfg0.win 2).flush t = true → i ∉ ((cfg0.win 2).blk t).view.set) :
    (dats m 0 c).arrAt 2 cfg0.N i = V m c (Pipeline.arrRef spec0 2) i := by
  rw [(dats m 0 c).arrAt_apply_of_forall_not_mem 2 cfg0.N i (fun t _ hf => h t hf), A_eq]

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S5120x17920.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S5120x17920.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S40x140.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 2's array is `(dats m 0 c).arrAt 2 N`. -/
theorem post2 (r : PUnit × MemSt nD τ sig (Elt F)) (h : Pipeline.FramePost cfgs (dats m) 0 (V m) r) (c : Dev nD) :
    r.2.mem ((c : Thread nD τ).loc main_v0_0) = (dats m 0 c).arrAt 2 cfg0.N :=
  (h c).1 2

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_1) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_2) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_3) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 2 cfg0.N
      ∧ r.2.mem ((c : Thread nD τ).loc main_v0_1) = (dats m 0 c).arrAt 3 cfg0.N
      ∧ r.2.mem ((c : Thread nD τ).loc main_v0_2) = (dats m 0 c).arrAt 4 cfg0.N
      ∧ r.2.mem ((c : Thread nD τ).loc main_v0_3) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post2 m r h c,
      post3 m r h c,
      post4 m r h c,
      post5 m r h c,
      kept_main_arg0 m r h c,
      kept_main_arg1 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x1536x5120.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 1536 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S5120x17920.Idx) : ((cfg0.win 1).blk t).view.emb j = j := by
  obtain ⟨e0, e1⟩ := idx_zero1 t
  funext a; apply Fin.ext
  match a with
  | ⟨0, _⟩ => show win0_1.index t (0 : Fin 2) * 5120 + 1 * (j 0).val = (j 0).val; omega
  | ⟨1, _⟩ => show win0_1.index t (1 : Fin 2) * 17920 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S4x1536x17920.Idx) : ((cfg0.win 2).blk t).view.emb j = j := by
  obtain ⟨e0, e1, e2⟩ := idx_zero2 t
  funext a; apply Fin.ext
  match a with
  | ⟨0, _⟩ => show win0_2.index t (0 : Fin 3) * 4 + 1 * (j 0).val = (j 0).val; omega
  | ⟨1, _⟩ => show win0_2.index t (1 : Fin 3) * 1536 + 1 * (j 1).val = (j 1).val; omega
  | ⟨2, _⟩ => show win0_2.index t (2 : Fin 3) * 17920 + 1 * (j 2).val = (j 2).val; omega

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S5120x17920.Idx) : ((cfg0.win 3).blk t).view.emb j = j := by
  obtain ⟨e0, e1⟩ := idx_zero3 t
  funext a; apply Fin.ext
  match a with
  | ⟨0, _⟩ => show win0_3.index t (0 : Fin 2) * 5120 + 1 * (j 0).val = (j 0).val; omega
  | ⟨1, _⟩ => show win0_3.index t (1 : Fin 2) * 17920 + 1 * (j 1).val = (j 1).val; omega

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S5120x17920.Idx) : ((cfg0.win 4).blk t).view.emb j = j := by
  obtain ⟨e0, e1⟩ := idx_zero4 t
  funext a; apply Fin.ext
  match a with
  | ⟨0, _⟩ => show win0_4.index t (0 : Fin 2) * 5120 + 1 * (j 0).val = (j 0).val; omega
  | ⟨1, _⟩ => show win0_4.index t (1 : Fin 2) * 17920 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S40x140.Idx) : ((cfg0.win 5).blk t).view.emb j = j := by
  obtain ⟨e0, e1⟩ := idx_zero5 t
  funext a; apply Fin.ext
  match a with
  | ⟨0, _⟩ => show win0_5.index t (0 : Fin 2) * 40 + 1 * (j 0).val = (j 0).val; omega
  | ⟨1, _⟩ => show win0_5.index t (1 : Fin 2) * 140 + 1 * (j 1).val = (j 1).val; omega

/-! ### Output window 2: the array after the run -/

/-- What the window's array ends holding: `out0_2` applied to the argument arrays in place of the input blocks (a value that the
    frame states apart, `kK_payN a…`, keeps its loads inside its own definition). -/
abbrev G2 (a0 : Vec F S4x1536x5120 .bf16) (a1 : Vec F S5120x17920 .f32) : Vec F S4x1536x17920 .bf16 :=
  k0_pay6 a1 a0

/-- A load of the whole of a block reads the block, and the one store through the whole rectangle leaves its payload. -/
theorem out2_eq (a0 : Vec F S4x1536x5120 .bf16) (a1 : Vec F S5120x17920 .f32) : out0_2 (F := F) a0 a1 = G2 a0 a1 := by
  unfold out0_2
  rw [View.canon_unit_zero hz2, View.ld_unit_zero (S := S5120x17920) hz1 _ a1, View.ld_unit_zero (S := S4x1536x5120) hz0 _ a0]

/-- Cutting the point's block out of `X` and reading `X` through the block's view give the same. -/
theorem cut2_eq (t : Fin cfg0.N) (X : Vec F S4x1536x17920 .bf16) :
    (cfg0.win 2).cut (grid0.coords t) X = ((cfg0.win 2).blk t).view.read (Elt F) X := by
  funext j
  show X j = X (((cfg0.win 2).blk t).view.emb j)
  rw [emb2]

/-- WHAT THE POINT WRITES BACK is its block of `G2` of the argument arrays as the region finds them. -/
theorem flushed2_eq (c : Dev nD) (t : Fin cfg0.N) :
    (dats m 0 c).flushed 2 t = ((cfg0.win 2).blk t).view.read (Elt F) (G2 (V m c main_arg0) (V m c main_arg1)) := by
  show (cfg0.win 2).cut (grid0.coords t) ((dats m 0 c).after 2 t) = _
  rw [after0_2, out2_eq, iblk0_eq, iblk1_eq]
  exact cut2_eq t _

/-- Every index of the array is in the point's block. -/
theorem covered2 (i : S4x1536x17920.Idx) :
    ∃ t : Fin cfg0.N, (cfg0.win 2).flush t = true ∧ i ∈ ((cfg0.win 2).blk t).view.set :=
  ⟨(⟨0, by decide⟩ : Fin cfg0.N), flush0_2 _, by have h := ((cfg0.win 2).blk (⟨0, by decide⟩ : Fin cfg0.N)).view.emb_mem_set i; rwa [emb2] at h⟩

/-- THE ARRAY after the run: `G2` of the argument arrays as launched. -/
theorem final2 (c : Dev nD) : (dats m 0 c).arrAt 2 cfg0.N = G2 (m ((c : Thread nD τ).loc main_arg0)) (m ((c : Thread nD τ).loc main_arg1)) :=
  ((dats m 0 c).arrAt_eq_of_cover 2 (G2 (V m c main_arg0) (V m c main_arg1)) (fun t _ => flushed2_eq m c t) covered2).trans (by rw [V_main_arg0, V_main_arg1])

/-! ### Output window 3: the array after the run -/

/-- What the window's array ends holding: `out0_3` applied to the argument arrays in place of the input blocks (a value that the
    frame states apart, `kK_payN a…`, keeps its loads inside its own definition). -/
abbrev G3 (a0 : Vec F S4x1536x5120 .bf16) (a1 : Vec F S5120x17920 .f32) : Vec F S5120x17920 .fp8e4m3 :=
  k0_pay4 a1

/-- A load of the whole of a block reads the block, and the one store through the whole rectangle leaves its payload. -/
theorem out3_eq (a0 : Vec F S4x1536x5120 .bf16) (a1 : Vec F S5120x17920 .f32) : out0_3 (F := F) a0 a1 = G3 a0 a1 := by
  unfold out0_3
  rw [View.canon_unit_zero hz3, View.ld_unit_zero (S := S5120x17920) hz1 _ a1]

/-- Cutting the point's block out of `X` and reading `X` through the block's view give the same. -/
theorem cut3_eq (t : Fin cfg0.N) (X : Vec F S5120x17920 .fp8e4m3) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1)) := by
  show (cfg0.win 3).cut (grid0.coords t) ((dats m 0 c).after 3 t) = _
  rw [after0_3, out3_eq, iblk0_eq, iblk1_eq]
  exact cut3_eq t _

/-- Every index of the array is in the point's block. -/
theorem covered3 (i : S5120x17920.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) :=
  ((dats m 0 c).arrAt_eq_of_cover 3 (G3 (V m c main_arg0) (V m c main_arg1)) (fun t _ => flushed3_eq m c t) covered3).trans (by rw [V_main_arg0, V_main_arg1])

/-! ### Output window 4: the array after the run -/

/-- What the window's array ends holding: `out0_4` applied to the argument arrays in place of the input blocks (a value that the
    frame states apart, `kK_payN a…`, keeps its loads inside its own definition). -/
abbrev G4 (a0 : Vec F S4x1536x5120 .bf16) (a1 : Vec F S5120x17920 .f32) : Vec F S5120x17920 .bf16 :=
  k0_pay5 a1

/-- A load of the whole of a block reads the block, and the one store through the whole rectangle leaves its payload. -/
theorem out4_eq (a0 : Vec F S4x1536x5120 .bf16) (a1 : Vec F S5120x17920 .f32) : out0_4 (F := F) a0 a1 = G4 a0 a1 := by
  unfold out0_4
  rw [View.canon_unit_zero hz4, View.ld_unit_zero (S := S5120x17920) hz1 _ a1]

/-- Cutting the point's block out of `X` and reading `X` through the block's view give the same. -/
theorem cut4_eq (t : Fin cfg0.N) (X : Vec F S5120x17920 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1)) := by
  show (cfg0.win 4).cut (grid0.coords t) ((dats m 0 c).after 4 t) = _
  rw [after0_4, out4_eq, iblk0_eq, iblk1_eq]
  exact cut4_eq t _

/-- Every index of the array is in the point's block. -/
theorem covered4 (i : S5120x17920.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) :=
  ((dats m 0 c).arrAt_eq_of_cover 4 (G4 (V m c main_arg0) (V m c main_arg1)) (fun t _ => flushed4_eq m c t) covered4).trans (by rw [V_main_arg0, V_main_arg1])

/-! ### Output window 5: the array after the run -/

/-- What the window's array ends holding: `out0_5` applied to the argument arrays in place of the input blocks (a value that the
    frame states apart, `kK_payN a…`, keeps its loads inside its own definition). -/
abbrev G5 (a0 : Vec F S4x1536x5120 .bf16) (a1 : Vec F S5120x17920 .f32) : Vec F S40x140 .f32 :=
  k0_pay3 a1

/-- A load of the whole of a block reads the block, and the one store through the whole rectangle leaves its payload. -/
theorem out5_eq (a0 : Vec F S4x1536x5120 .bf16) (a1 : Vec F S5120x17920 .f32) : out0_5 (F := F) a0 a1 = G5 a0 a1 := by
  unfold out0_5
  rw [View.canon_unit_zero hz5, View.ld_unit_zero (S := S5120x17920) hz1 _ a1]

/-- Cutting the point's block out of `X` and reading `X` through the block's view give the same. -/
theorem cut5_eq (t : Fin cfg0.N) (X : Vec F S40x140 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1)) := by
  show (cfg0.win 5).cut (grid0.coords t) ((dats m 0 c).after 5 t) = _
  rw [after0_5, out5_eq, iblk0_eq, iblk1_eq]
  exact cut5_eq t _

/-- Every index of the array is in the point's block. -/
theorem covered5 (i : S40x140.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) :=
  ((dats m 0 c).arrAt_eq_of_cover 5 (G5 (V m c main_arg0) (V m c main_arg1)) (fun t _ => flushed5_eq m c t) covered5).trans (by rw [V_main_arg0, V_main_arg1])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G2 (m ((c : Thread nD τ).loc main_arg0)) (m ((c : Thread nD τ).loc main_arg1))
      ∧ r.2.mem ((c : Thread nD τ).loc main_v0_1) = G3 (m ((c : Thread nD τ).loc main_arg0)) (m ((c : Thread nD τ).loc main_arg1))
      ∧ r.2.mem ((c : Thread nD τ).loc main_v0_2) = G4 (m ((c : Thread nD τ).loc main_arg0)) (m ((c : Thread nD τ).loc main_arg1))
      ∧ r.2.mem ((c : Thread nD τ).loc main_v0_3) = G5 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final2 m c),
      (post3 m r h c).trans (final3 m c),
      (post4 m r h c).trans (final4 m c),
      (post5 m r h c).trans (final5 m c),
      kept_main_arg0 m r h c,
      kept_main_arg1 m r h c⟩)
    (run_main m ρ)

end Cert.RefFwdIdeal.Value

end
-- ==== Proof.RefFwdValue.lean ====
module

public import proofs.«01_k».proof.Proof.RefFwdRun
public import proofs.«01_k».proof.Proof.FwdMath
public import proofs.«01_k».proof.Pre_normal_scales
public import Idealize.ShloMosaic.Lib.KernelVsHost

/-! The reference's results at an index. -/

@[expose] public section

set_option maxRecDepth 16384

noncomputable section

open scoped BigOperators

namespace Cert.RefFwdIdeal.Val

open Idealize.ShloMosaic Idealize.ShloMosaic.TcCoe
open Cert.RefFwdIdeal Cert.RefFwdIdeal.Gen Cert.FwdMath Cert.FwdScalar Cert.Sums

theorem exp2_at {s : Shape} (E : FVec Ideal s .f32) (j : s.Idx) : exp2 E j = Ideal.exp2 (E j) := rfl
theorem exp2_neg_at {s : Shape} (E : FVec Ideal s .f32) (j : s.Idx) : exp2 (F := Ideal) (φ := .f32) (subf (broadcast s (Scalar.ofBits (F := Ideal) .f32 0x00000000#32)) E) j = Ideal.exp2 (0 - E j) := by
  show Ideal.exp2 (Ideal.ofBits .f32 0x00000000#32 - _) = _
  rw [Ideal.ofBits_zero_f32]

theorem exp_at {s : Shape} (A : FVec Ideal s .f32) (z z' k t o : EReal) (j : s.Idx) :
    select (cmpf (F := Ideal) (φ := .f32) .oeq A (broadcast s z)) (broadcast s z') (addf (F := Ideal) (φ := .f32) (floor (F := Ideal) (φ := .f32) (divf (F := Ideal) (φ := .f32) (log (F := Ideal) (φ := .f32) (mulf (F := Ideal) (φ := .f32) A (broadcast s k))) (log (F := Ideal) (φ := .f32) (broadcast s t)))) (broadcast s o)) j
      = Scalar.select (Ideal.cmp .oeq (A j) z) z' (Ideal.liftRound Int.floor (Ideal.div (Ideal.log (A j * k)) (Ideal.log t)) + o) := rfl

/-- The codes from the weight in blocks and the block's inverse scale. -/
def codesOf (v1 : FVec Ideal S40x128x140x128 .f32) (I : FVec Ideal S40x140 .f32) : FVec Ideal S5120x17920 .fp8e4m3 :=
  shapeCast S5120x17920 (truncf .fp8e4m3 (minimumf (broadcast S40x128x140x128 (Scalar.ofBits (F := Ideal) .f32 0x43E00000#32)) (maximumf (broadcast S40x128x140x128 (Scalar.ofBits (F := Ideal) .f32 0xC3E00000#32))
    (mulf v1 (broadcastTo S40x128x140x128 (shapeCast S40x1x140x1 I shapeCasts_S40x140_S40x1x140x1) broadcasts_S40x1x140x1_S40x128x140x128)))) bitsLt_fp8e4m3_f32) shapeCasts_S40x128x140x128_S5120x17920

theorem codesOf_at (w : Vec Ideal S5120x17920 .f32) (I : FVec Ideal S40x140 .f32) (j : S5120x17920.Idx) (q : S40x140.Idx)
    (h0 : (q 0).val = (j 0).val / 128) (h1 : (q 1).val = (j 1).val / 128) : codesOf (k0_pay1 (F := Ideal) w) I j = clip (w j * I q) := by
  unfold codesOf clip
  pointwise [k0_pay1]
  congr 4
  rw [eq_ix2 q]
  congr 1
  · exact Fin.ext h0.symm
  · exact Fin.ext h1.symm

/-- The rounded weight from the codes and the scales. -/
def wqOf (C : FVec Ideal S5120x17920 .fp8e4m3) (E : FVec Ideal S40x140 .f32) : FVec Ideal S5120x17920 .bf16 :=
  shapeCast S5120x17920 (mulf (shapeCast S40x128x140x128 (extf .bf16 C bitsLt_fp8e4m3_bf16) shapeCasts_S5120x17920_S40x128x140x128)
    (broadcastTo S40x128x140x128 (shapeCast S40x1x140x1 (truncf .bf16 E bitsLt_bf16_f32) shapeCasts_S40x140_S40x1x140x1) broadcasts_S40x1x140x1_S40x128x140x128)) shapeCasts_S40x128x140x128_S5120x17920

theorem wqOf_at (C : FVec Ideal S5120x17920 .fp8e4m3) (E : FVec Ideal S40x140 .f32) (j : S5120x17920.Idx) (q : S40x140.Idx)
    (h0 : (q 0).val = (j 0).val / 128) (h1 : (q 1).val = (j 1).val / 128) : wqOf C E j = C j * E q := by
  unfold wqOf
  pointwise
  congr 2
  rw [eq_ix2 q]
  congr 1
  · exact Fin.ext h0.symm
  · exact Fin.ext h1.symm

/-- The product from the rounded weight. -/
def yOf (x : FVec Ideal S4x1536x5120 .bf16) (W : FVec Ideal S5120x17920 .bf16) : FVec Ideal S4x1536x17920 .bf16 :=
  truncf .bf16 (matmul dot_S4x1536x5120_S5120x17920_S4x1536x17920_2_0_01_1_n_n none x W (constant S4x1536x17920 .f32 0x00000000#32)) bitsLt_bf16_f32

theorem yOf_at (x : FVec Ideal S4x1536x5120 .bf16) (W : FVec Ideal S5120x17920 .bf16) (j : S4x1536x17920.Idx) :
    yOf x W j = ∑ k : Fin 5120, x (ix3 (j 0) (j 1) k) * W (ix2 k (j 2)) := by
  unfold yOf
  pointwise

/-- The largest magnitude of each block. -/
def amax (v1 : FVec Ideal S40x128x140x128 .f32) : FVec Ideal S40x140 .f32 :=
  multiReduction (F := Ideal) .maximumf [1, 3] S40x140 (absf v1) 0xFF800000#32 reduces_S40x128x140x128_S40x140 (.inl rfl) rfl

theorem fold_le {ι : Type*} (S : Finset ι) (f : ι → EReal) (b B : EReal) :
    Finset.fold (FloatOps.maximumf (F := Ideal) (φ := .f32)) b f S ≤ B ↔ b ≤ B ∧ ∀ x ∈ S, f x ≤ B := Finset.fold_max_le B

theorem amax_le (v1 : FVec Ideal S40x128x140x128 .f32) (j : S40x140.Idx) (B : EReal) :
    amax v1 j ≤ B ↔ ∀ i : S40x128x140x128.Idx, reduces_S40x128x140x128_S40x140.drop i = j → max (v1 i) (-(v1 i)) ≤ B := by
  unfold amax
  rw [show multiReduction (F := Ideal) .maximumf [1, 3] S40x140 (absf v1) 0xFF800000#32 reduces_S40x128x140x128_S40x140 (.inl rfl) rfl j = _ from
    (congrFun (multiReduction_maximumf_eq_reduceFold _ _ _ _ _) j).trans (reduceFold_eq_fold _ _ _ _ _), fold_le]
  simp only [Finset.mem_filter, Finset.mem_univ, true_and]
  constructor
  · exact fun h i hi => h.2 i hi
  · exact fun h => ⟨(show low ≤ B by rw [low_eq]; exact bot_le), fun i hi => h i hi⟩

theorem amax_eq (w : Vec Ideal S5120x17920 .f32) (j : S40x140.Idx) : amax (k0_pay1 (F := Ideal) w) j = mag (blk w (j 0).val (j 1).val) := by
  have hj0 : (j 0).val < 40 := (j 0).isLt
  have hj1 : (j 1).val < 140 := (j 1).isLt
  have hp : ∀ i : S40x128x140x128.Idx, k0_pay1 (F := Ideal) w i = at2 w ((i 0).val * 128 + (i 1).val) ((i 2).val * 128 + (i 3).val) := by
    intro i
    have a0 : (i 0).val < 40 := (i 0).isLt
    have a1 : (i 1).val < 128 := (i 1).isLt
    have a2 : (i 2).val < 140 := (i 2).isLt
    have a3 : (i 3).val < 128 := (i 3).isLt
    pointwise [k0_pay1]
    exact (at2_eq w _ _ _ rfl rfl).symm
  generalize k0_pay1 (F := Ideal) w = v1 at hp ⊢
  refine eq_of_forall_ge_iff fun B => ?_
  rw [amax_le, mag_le]
  have d0 : ∀ i, (reduces_S40x128x140x128_S40x140.drop i 0).val = (i 0).val := fun i =>
    reduces_S40x128x140x128_S40x140.drop_apply_val_of_eq i 0 0 (by decide) (by decide)
  have d1 : ∀ i, (reduces_S40x128x140x128_S40x140.drop i 1).val = (i 2).val := fun i =>
    reduces_S40x128x140x128_S40x140.drop_apply_val_of_eq i 1 2 (by decide) (by decide)
  constructor
  · intro h y x
    have := h (ix4 (j 0) y (j 1) x) (by
      rw [eq_ix2 j]
      refine (eq_ix2 _).trans ?_
      congr 1)
    rw [hp] at this
    unfold blk
    rw [Nat.mul_comm 128, Nat.mul_comm 128]
    exact this
  · intro h i hi
    have e0 : (i 0).val = (j 0).val := by rw [← hi]; exact (d0 i).symm
    have e1 : (i 2).val = (j 1).val := by rw [← hi]; exact (d1 i).symm
    have := h (i 1) (i 3)
    unfold blk at this
    rw [Nat.mul_comm 128, Nat.mul_comm 128] at this
    rw [hp, e0, e1]
    exact this

theorem select_zero (A x : EReal) : Scalar.select (Ideal.cmp .oeq A 0) 0 x = if A = 0 then 0 else x := by
  unfold Scalar.select Ideal.cmp
  by_cases h : A = 0
  · simp [h]
  · simp [h]

theorem two_bits : Ideal.ofBits .f32 0x40000000#32 = 2 := by
  show Ideal.ieee 8 23 0x40000000#32 = 2
  simp [Ideal.ieee, -EReal.coe_mul]
  norm_num
  rfl

/-- The exponent of the scale of each block. -/
theorem pay2_at (w : Vec Ideal S5120x17920 .f32) (j : S40x140.Idx) : k0_pay2 (F := Ideal) w j = rexp (blk w (j 0).val (j 1).val) := by
  unfold k0_pay2
  refine (exp_at (amax (k0_pay1 (F := Ideal) w)) _ _ _ _ _ j).trans ?_
  rw [amax_eq]
  unfold rexp
  generalize mag (blk w (j 0).val (j 1).val) = A
  show Scalar.select (Ideal.cmp .oeq A (Ideal.ofBits .f32 0x00000000#32)) (Ideal.ofBits .f32 0x00000000#32) (Ideal.liftRound Int.floor (Ideal.div (Ideal.log (A * rmax)) (Ideal.log (Ideal.ofBits .f32 0x40000000#32))) + Ideal.ofBits .f32 0x3F800000#32) = refExp A (A * rmax)
  rw [Ideal.ofBits_zero_f32, two_bits, Ideal.ofBits_one_f32, select_zero]
  rfl

/-- The scales. -/
theorem G5_at (x : Vec Ideal S4x1536x5120 .bf16) (w : Vec Ideal S5120x17920 .f32) (j : S40x140.Idx) :
    k0_pay3 (F := Ideal) w j = scaleN w (j 0).val (j 1).val := by
  refine (show k0_pay3 (F := Ideal) w j = Ideal.exp2 (k0_pay2 (F := Ideal) w j) from exp2_at (k0_pay2 (F := Ideal) w) j).trans ?_
  rw [pay2_at]
  rfl

/-- The block an index of the weight lies in. -/
def blkIx (j : S5120x17920.Idx) : S40x140.Idx :=
  ix2 ⟨(j 0).val / 128, by have h : (j 0).val < 5120 := (j 0).isLt; omega⟩ ⟨(j 1).val / 128, by have h : (j 1).val < 17920 := (j 1).isLt; omega⟩

/-- The codes. -/
theorem G3_at (w : Vec Ideal S5120x17920 .f32) (j : S5120x17920.Idx) : k0_pay4 (F := Ideal) w j = codeN w (j 0).val (j 1).val := by
  refine (show k0_pay4 (F := Ideal) w j = codesOf (k0_pay1 (F := Ideal) w) (exp2 (subf (broadcast S40x140 (Scalar.ofBits (F := Ideal) .f32 0x00000000#32)) (k0_pay2 (F := Ideal) w))) j from rfl).trans ?_
  rw [codesOf_at w _ j (blkIx j) rfl rfl, exp2_neg_at, pay2_at]
  unfold codeN
  rw [at2_eq w j _ _ rfl rfl]
  rfl

/-- The rounded weight. -/
theorem G4_at (w : Vec Ideal S5120x17920 .f32) (j : S5120x17920.Idx) : k0_pay5 (F := Ideal) w j = wqN w (j 0).val (j 1).val := by
  refine (show k0_pay5 (F := Ideal) w j = wqOf (k0_pay4 (F := Ideal) w) (k0_pay3 (F := Ideal) w) j from rfl).trans ?_
  rw [wqOf_at _ _ j (blkIx j) rfl rfl, G3_at]
  unfold wqN
  rw [show k0_pay3 (F := Ideal) w (blkIx j) = Ideal.exp2 (k0_pay2 (F := Ideal) w (blkIx j)) from exp2_at (k0_pay2 (F := Ideal) w) (blkIx j), pay2_at]
  rfl

/-- The product. -/
theorem G2_at (x : Vec Ideal S4x1536x5120 .bf16) (w : Vec Ideal S5120x17920 .f32) (j : S4x1536x17920.Idx) :
    k0_pay6 (F := Ideal) w x j = yN x w (j 0).val (j 1).val (j 2).val := by
  refine (show k0_pay6 (F := Ideal) w x j = yOf x (k0_pay5 (F := Ideal) w) j from rfl).trans ?_
  rw [yOf_at]
  unfold yN
  refine Finset.sum_congr rfl fun k _ => ?_
  rw [G4_at]
  exact congrArg (· * _) (at3_eq x (ix3 (j 0) (j 1) k) (j 0).val (j 1).val k.val rfl rfl rfl).symm

/-- The side conditions of the precondition's operations. -/
theorem preFacts : Cert.Pre_normal_scales.Facts where
  shapeCasts_S5120x17920_S40x128x140x128 := by decide
  reducesTo_S40x128x140x128_S40x140_d1_3 := by decide
  h_S_ := by decide
  bcast_S_S40x140 := by decide

theorem or_and_one (p q r : BitVec 1) (h : IntOp.ori p (IntOp.andi q r) = 1#1) : p = 1#1 ∨ (q = 1#1 ∧ r = 1#1) := by
  revert p q r
  decide

theorem cmp_one (p : CmpFPredicate) (a b : EReal) (P : Prop) [Decidable P] (hP : Ideal.cmp p a b = BitVec.ofBool (decide P)) (h : Ideal.cmp p a b = 1#1) : P := by
  by_contra hn
  rw [hP, decide_eq_false hn] at h
  exact absurd h (by decide)

theorem lo_bits : Ideal.ofBits .f32 0x00800000#32 = (((2 : ℝ) ^ (-126 : ℤ) : ℝ) : EReal) :=
  bits_val _ 1 (by decide) (by decide) (by decide) (by decide) (by decide)
theorem hi_bits : Ideal.ofBits .f32 0x7E800000#32 = (((2 : ℝ) ^ (126 : ℤ) : ℝ) : EReal) :=
  bits_val _ 253 (by decide) (by decide) (by decide) (by decide) (by decide)

/-- The precondition from the blocks' largest magnitudes, at an index. -/
theorem pre_at (A : FVec Ideal S40x140 .f32) (z k lo hi : EReal) (j : S40x140.Idx)
    (h : ori (cmpf (F := Ideal) (φ := .f32) .oeq A (fun _ => z)) (andi (cmpf (F := Ideal) (φ := .f32) .oge (mulf (F := Ideal) (φ := .f32) A (fun _ => k)) (fun _ => lo))
      (cmpf (F := Ideal) (φ := .f32) .olt (mulf (F := Ideal) (φ := .f32) A (fun _ => k)) (fun _ => hi))) j = 1#1) :
    A j = z ∨ (lo ≤ A j * k ∧ A j * k < hi) := by
  rcases or_and_one _ _ _ h with h | ⟨h1, h2⟩
  · exact Or.inl (cmp_one .oeq _ _ _ rfl h)
  · exact Or.inr ⟨cmp_one .oge _ _ _ rfl h1, cmp_one .olt _ _ _ rfl h2⟩

/-- Under the precondition every block is normal. -/
theorem normal_of_pre (x : FVec Ideal S4x1536x5120 .bf16) (w : FVec Ideal S5120x17920 .f32)
    [hF : Cert.Pre_normal_scales.Facts]
    (h : Cert.Pre_normal_scales.fn (F := Ideal) x w = fun _ => 1#1) (a b : ℕ) (ha : a < 40) (hb : b < 140) : Normal (blk w a b) := by
  have hA := amax_eq w (ix2 ⟨a, ha⟩ ⟨b, hb⟩)
  have he : Host.reduce (FloatOps.maximumf (F := Ideal) (φ := .f32)) (Host.absf (shapeCast S40x128x140x128 w hF.shapeCasts_S5120x17920_S40x128x140x128))
      (constant (F := Ideal) Cert.Pre_normal_scales.S_ .f32 0xFF800000#32) hF.reducesTo_S40x128x140x128_S40x140_d1_3 hF.h_S_ = amax (k0_pay1 (F := Ideal) w) :=
    hostReduce_maximumf_eq_multiReduction (absf (F := Ideal) (φ := .f32) (shapeCast S40x128x140x128 w hF.shapeCasts_S5120x17920_S40x128x140x128)) 0xFF800000#32 _ _ reduces_S40x128x140x128_S40x140 (.inl rfl) rfl
  have h1 := congrFun h (ix2 ⟨a, ha⟩ ⟨b, hb⟩)
  unfold Cert.Pre_normal_scales.fn at h1
  dsimp only at h1
  rw [he] at h1
  have h2 := pre_at (amax (k0_pay1 (F := Ideal) w)) (Ideal.ofBits .f32 0x00000000#32) rmax (Ideal.ofBits .f32 0x00800000#32) (Ideal.ofBits .f32 0x7E800000#32) _ h1
  rw [hA] at h2
  rw [lo_bits, hi_bits, Ideal.ofBits_zero_f32] at h2
  exact h2

end Cert.RefFwdIdeal.Val
-- ==== Proof.KFwdRuns.lean ====
module

public import proofs.«01_k».proof.Proof.Gen.Fwd.Frame
public import proofs.«01_k».proof.Proof.Gen.Fwd.Skeleton
public import proofs.«01_k».proof.Proof.Gen.Fwd.Loops
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

/-! (The kernel as printed.) What the runs of the forward kernel's body share: the body's branch condition in closed form, and where the output windows are idle. -/

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 280 := Nat.lt_of_lt_of_eq t.isLt N_0
    have e0 : (grid0.coords t 0).val = t.val / 8 % 35 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x8080808080808080808080808080808080808080808080808080808080808080808080 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → cfg0.idle 3 (grid0.coords t) = false := by decide +kernel
/-- At the points of case B output 3 is idle: the body stores nothing into it. -/
theorem idleAt0_3_B : ∀ t : Fin cfg0.N, ¬cond0_0 (grid0.coords t) → cfg0.idle 3 (grid0.coords t) = true := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → cfg0.fresh 3 t.val = false := by
  intro t; rw [fresh0_3_eq t]; revert t; decide +kernel
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0x8080808080808080808080808080808080808080808080808080808080808080808080 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → cfg0.idle 4 (grid0.coords t) = false := by decide +kernel
/-- At the points of case B output 4 is idle: the body stores nothing into it. -/
theorem idleAt0_4_B : ∀ t : Fin cfg0.N, ¬cond0_0 (grid0.coords t) → cfg0.idle 4 (grid0.coords t) = true := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cfg0.fresh 4 t.val = false := by
  intro t; rw [fresh0_4_eq t]; revert t; decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x8080808080808080808080808080808080808080808080808080808080808080808080 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cfg0.idle 5 (grid0.coords t) = false := by decide +kernel
/-- At the points of case B output 5 is idle: the body stores nothing into it. -/
theorem idleAt0_5_B : ∀ t : Fin cfg0.N, ¬cond0_0 (grid0.coords t) → cfg0.idle 5 (grid0.coords t) = true := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → cfg0.fresh 5 t.val = false := by
  intro t; rw [fresh0_5_eq t]; revert t; decide +kernel

/-! ## The kernel body on any staging memrefs: a subtype the run finds -/

/-- One staging buffer of output window 2, through which its contents are stated (`View.read_writes_of_cover`: the
    choice does not matter). -/
abbrev VO0_2 : View sig .tc .vmem S768x512 .bf16 := (Memref.whole cc0_stg2_0 : Memref sig .tc .vmem S768x512 .bf16).view
/-- One staging buffer of output window 3, through which its contents are stated (`View.read_writes_of_cover`: the
    choice does not matter). -/
abbrev VO0_3 : View sig .tc .vmem S5120x512 .fp8e4m3 := (Memref.whole cc0_stg3_0 : Memref sig .tc .vmem S5120x512 .fp8e4m3).view
/-- One staging buffer of output window 4, through which its contents are stated (`View.read_writes_of_cover`: the
    choice does not matter). -/
abbrev VO0_4 : View sig .tc .vmem S5120x512 .bf16 := (Memref.whole cc0_stg4_0 : Memref sig .tc .vmem S5120x512 .bf16).view
/-- One staging buffer of output window 5, through which its contents are stated (`View.read_writes_of_cover`: the
    choice does not matter). -/
abbrev VO0_5 : View sig .tc .vmem S1x40x4 .f32 := (Memref.whole cc0_stg5_0 : Memref sig .tc .vmem S1x40x4 .f32).view
/-- Each window's current staging memref at point `t`, spelled as the pipeline passes it (`bodyAt0`), and its wholeness. -/
abbrev ms0_0 (t : Fin cfg0.N) : Memref sig .tc .vmem S768x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5120x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S5120x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S5120x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x40x4 .f32 := win0_5.stage (cfg0.slots t 5)
abbrev hs0_5 (t : Fin cfg0.N) : (ms0_5 t).IsWhole := hstage0_5 ((cfg0.slots t 5).cast nbuf0_5)

end Cert.Fwd.Gen

end
-- ==== Proof.KFwdRunA.lean ====
module

public import proofs.«01_k».proof.Proof.KFwdRuns

/-! The body's run at the points where it quantises the weight block (first row block of x). -/

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE A (`scf.if` 0 taken: points 0, 8, … 272: 35 of 280), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) :
    Σ' (L2 : List (View.Piece (Elt F) S768x512 .bf16)), Σ' (L3 : List (View.Piece (Elt F) S5120x512 .fp8e4m3)), Σ' (L4 : List (View.Piece (Elt F) S5120x512 .bf16)), { L5 : List (View.Piece (Elt F) S1x40x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_qfwd i arg2 harg2 arg3 harg3 arg4 harg4 arg5 harg5 arg6 harg6 arg7 harg7) K } := by
  refine ⟨?_, ?_, ?_, ?_, fun E K => ?run⟩
  case run =>
    simp only [cc0_qfwd_eq_skeleton]; unfold cc0_qfwd_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg2.eq_unread hf0; obtain rfl := harg3.eq_unread hf1
    have hrd0 : ∀ (𝒱 : Variants) (c : Dev nD) (bd : Option 𝒱.V) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (k0_h1 : k0_cond1 i = 1#1) (X_arg3 : BufTy.Contents (Elt F) arg3.view.ty) (hrdF : BufTy.Contents (Elt F) arg6.view.ty) (hrdB : LoadRect S5120x512), arg6.view.readAt (Elt F) hrdB (arg6.view.writes (Elt F) hrdF (pb_k0_t1 (F := F) 𝒱 c bd i arg2 harg2 arg3 harg3 arg4 harg4 arg5 harg5 arg6 harg6 arg7 harg7 k0_h1 X_arg3 (Scf.trips k0_t1_loop.lb k0_t1_loop.ub k0_t1_loop.st)).2.1) = arg6.view.readCov (pb_k0_t1 (F := F) 𝒱 c bd i arg2 harg2 arg3 harg3 arg4 harg4 arg5 harg5 arg6 harg6 arg7 harg7 k0_h1 X_arg3 (Scf.trips k0_t1_loop.lb k0_t1_loop.ub k0_t1_loop.st)).2.1 hrdB := fun 𝒱 c bd i arg2 harg2 arg3 harg3 arg4 harg4 arg5 harg5 arg6 harg6 arg7 harg7 k0_h1 X_arg3 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 k0_h1 X_arg3 (Scf.trips k0_t1_loop.lb k0_t1_loop.ub k0_t1_loop.st)).2.1 S128x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    iexists _; iexact H5

end Cert.Fwd.Gen

end
-- ==== Proof.KFwdRunB.lean ====
module

public import proofs.«01_k».proof.Proof.KFwdRunA

/-! The body's run at the other points, where it only multiplies by the block already quantised. -/

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 279: 245 of 280), WITH the
    proof that on whole staging memrefs — the inputs' at their contents, the outputs it reads before covering (3, 4, 5) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) :
    Σ' (L2 : List (View.Piece (Elt F) S768x512 .bf16)), Σ' (L3 : List (View.Piece (Elt F) S5120x512 .fp8e4m3)), Σ' (L4 : List (View.Piece (Elt F) S5120x512 .bf16)), { L5 : List (View.Piece (Elt F) S1x40x4 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xo3 ∗ owns (c : Thread nD τ) arg6 fullShare xo4 ∗ owns (c : Thread nD τ) arg7 fullShare xo5) -∗ K ⟨⟩))
          ⊢ wp frame (wpE (defs₀ (F := F)) Variants.none c none) E (cc0_qfwd i arg2 harg2 arg3 harg3 arg4 harg4 arg5 harg5 arg6 harg6 arg7 harg7) K } := by
  refine ⟨?_, [], [], [], fun E K => ?run⟩
  case run =>
    simp only [cc0_qfwd_eq_skeleton]; unfold cc0_qfwd_skel
    unfold owns
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg2.eq_unread hf0; obtain rfl := harg3.eq_unread hf1; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5

end Cert.Fwd.Gen

end
-- ==== Proof.KFwdFrame.lean ====
module

public import proofs.«01_k».proof.Proof.KFwdRunB
public import Idealize.ShloMosaic.Lib.Claim

/-! What the forward kernel's windows hold point by point, the body's obligation, and the run of the whole region. -/

@[expose] public section

-- membership in a rectangle of production extents (`View.cover_of_tiled`): the elaborator's structural look
-- recurses once per coordinate of the long axes
set_option maxRecDepth 16384

noncomputable section

namespace Cert.Fwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 2 tile its block (1 store of `S768x512`, checked by the kernel's evaluation: Lib/Ring.lean `Piece.tiledL`, linear in the pieces, through a loop's `@[irreducible]` trip theorem too), so they cover it. -/
theorem cover0_A_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S768x512.Idx) :
    ∃ pc ∈ (kernelRun0_A c i arg2 harg2 arg3 harg3 arg4 harg4 arg5 harg5 arg6 harg6 arg7 harg7 hc0 x0 x1).1, y ∈ pc.1.set :=
  View.cover_of_tiledL (kernelRun0_A c i arg2 harg2 arg3 harg3 arg4 harg4 arg5 harg5 arg6 harg6 arg7 harg7 hc0 x0 x1).1 S768x512.size (by sl_kernel_rfl) y

/-- What case A leaves in output 2's staging buffer: its pieces read back over junk. -/
def out0_A_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S768x512 .bf16 :=
  VO0_2.read (Elt F) (VO0_2.writes (Elt F) VO0_2.junk (kernelRun0_A c i arg2 harg2 arg3 harg3 arg4 harg4 arg5 harg5 arg6 harg6 arg7 harg7 hc0 x0 x1).1)

/-- Case A's pieces for output 3 tile its block (160 stores of `S128x128`, checked by the kernel's evaluation: Lib/Ring.lean `Piece.tiledL`, linear in the pieces, through a loop's `@[irreducible]` trip theorem too), so they cover it. -/
theorem cover0_A_3 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S5120x512.Idx) :
    ∃ pc ∈ (kernelRun0_A c i arg2 harg2 arg3 harg3 arg4 harg4 arg5 harg5 arg6 harg6 arg7 harg7 hc0 x0 x1).2.1, y ∈ pc.1.set :=
  View.cover_of_tiledL (kernelRun0_A c i arg2 harg2 arg3 harg3 arg4 harg4 arg5 harg5 arg6 harg6 arg7 harg7 hc0 x0 x1).2.1 S128x128.size (by sl_kernel_rfl) y

/-- What case A leaves in output 3's staging buffer: its pieces read back over junk. -/
def out0_A_3 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S5120x512 .fp8e4m3 :=
  VO0_3.read (Elt F) (VO0_3.writes (Elt F) VO0_3.junk (kernelRun0_A c i arg2 harg2 arg3 harg3 arg4 harg4 arg5 harg5 arg6 harg6 arg7 harg7 hc0 x0 x1).2.1)

/-- Case A's pieces for output 4 tile its block (160 stores of `S128x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S5120x512.Idx) :
    ∃ pc ∈ (kernelRun0_A c i arg2 harg2 arg3 harg3 arg4 harg4 arg5 harg5 arg6 harg6 arg7 harg7 hc0 x0 x1).2.2.1, y ∈ pc.1.set :=
  View.cover_of_tiledL (kernelRun0_A c i arg2 harg2 arg3 harg3 arg4 harg4 arg5 harg5 arg6 harg6 arg7 harg7 hc0 x0 x1).2.2.1 S128x128.size (by sl_kernel_rfl) y

/-- What case A leaves in output 4's staging buffer: its pieces read back over junk. -/
def out0_A_4 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S5120x512 .bf16 :=
  VO0_4.read (Elt F) (VO0_4.writes (Elt F) VO0_4.junk (kernelRun0_A c i arg2 harg2 arg3 harg3 arg4 harg4 arg5 harg5 arg6 harg6 arg7 harg7 hc0 x0 x1).2.2.1)

/-- Case A's pieces for output 5 tile its block (40 stores of `S1x1x4`, checked by the kernel's evaluation: Lib/Ring.lean `Piece.tiledL`, linear in the pieces, through a loop's `@[irreducible]` trip theorem too), so they cover it. -/
theorem cover0_A_5 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) (y : S1x40x4.Idx) :
    ∃ pc ∈ (kernelRun0_A c i arg2 harg2 arg3 harg3 arg4 harg4 arg5 harg5 arg6 harg6 arg7 harg7 hc0 x0 x1).2.2.2.1, y ∈ pc.1.set :=
  View.cover_of_tiledL (kernelRun0_A c i arg2 harg2 arg3 harg3 arg4 harg4 arg5 harg5 arg6 harg6 arg7 harg7 hc0 x0 x1).2.2.2.1 S1x1x4.size (by sl_kernel_rfl) y

/-- What case A leaves in output 5's staging buffer: its pieces read back over junk. -/
def out0_A_5 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : cond0_0 i)
    (x0 : Vec F S768x5120 .bf16) (x1 : Vec F S5120x512 .f32) : Vec F S1x40x4 .f32 :=
  VO0_5.read (Elt F) (VO0_5.writes (Elt F) VO0_5.junk (kernelRun0_A c i arg2 harg2 arg3 harg3 arg4 harg4 arg5 harg5 arg6 harg6 arg7 harg7 hc0 x0 x1).2.2.2.1)

/-- Case B's pieces for output 2 tile its block (1 store of `S768x512`, checked by the kernel's evaluation: Lib/Ring.lean `Piece.tiledL`, linear in the pieces, through a loop's `@[irreducible]` trip theorem too), so they cover it. -/
theorem cover0_B_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) (y : S768x512.Idx) :
    ∃ pc ∈ (kernelRun0_B c i arg2 harg2 arg3 harg3 arg4 harg4 arg5 harg5 arg6 harg6 arg7 harg7 hc0 x0 x1 xo3 xo4 xo5).1, y ∈ pc.1.set :=
  View.cover_of_tiledL (kernelRun0_B c i arg2 harg2 arg3 harg3 arg4 harg4 arg5 harg5 arg6 harg6 arg7 harg7 hc0 x0 x1 xo3 xo4 xo5).1 S768x512.size (by sl_kernel_rfl) y

/-- What case B leaves in output 2's staging buffer: its pieces read back over junk. -/
def out0_B_2 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S768x512 .bf16 :=
  VO0_2.read (Elt F) (VO0_2.writes (Elt F) VO0_2.junk (kernelRun0_B c i arg2 harg2 arg3 harg3 arg4 harg4 arg5 harg5 arg6 harg6 arg7 harg7 hc0 x0 x1 xo3 xo4 xo5).1)

/-- Case B stores nothing into output 3, a live window: its staging buffer holds what the point before left. -/
def out0_B_3 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S5120x512 .fp8e4m3 := xo3

/-- Case B stores nothing into output 4, a live window: its staging buffer holds what the point before left. -/
def out0_B_4 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S5120x512 .bf16 := xo4

/-- Case B stores nothing into output 5, a live window: its staging buffer holds what the point before left. -/
def out0_B_5 (c : Dev nD) (i : grid0.Coords) (arg2 : Memref sig .tc .vmem S768x5120 .bf16) (harg2 : arg2.IsWhole) (arg3 : Memref sig .tc .vmem S5120x512 .f32) (harg3 : arg3.IsWhole) (arg4 : Memref sig .tc .vmem S768x512 .bf16) (harg4 : arg4.IsWhole) (arg5 : Memref sig .tc .vmem S5120x512 .fp8e4m3) (harg5 : arg5.IsWhole) (arg6 : Memref sig .tc .vmem S5120x512 .bf16) (harg6 : arg6.IsWhole) (arg7 : Memref sig .tc .vmem S1x40x4 .f32) (harg7 : arg7.IsWhole) (hc0 : ¬cond0_0 i)
    (x0 : Vec F S768x5120 .bf16) (x1 : Vec F S5120x512 .f32) (xo3 : Vec F S5120x512 .fp8e4m3) (xo4 : Vec F S5120x512 .bf16) (xo5 : Vec F S1x40x4 .f32) : Vec F S1x40x4 .f32 := xo5

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S768x512 .bf16 × Vec F S5120x512 .fp8e4m3 × Vec F S5120x512 .bf16 × Vec F S1x40x4 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩))
  | n + 1, hn =>
    if h0 : (n + 1) % 8 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 280 := lt_of_lt_of_eq t.isLt (show cfg0.N = 280 from N_0)
  rw [after0_3, after0_3]
  by_cases h0 : t.val % 8 = 0
  · rw [liveAt0_3_A t ((hcond0_0 t).mpr h0)] at hi
    exact absurd hi Bool.false_ne_true
  · rw [outsAt0_B m c t h0]; dsimp only; unfold out0_B_3; rfl

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 280 := lt_of_lt_of_eq t.isLt (show cfg0.N = 280 from N_0)
  rw [after0_4, after0_4]
  by_cases h0 : t.val % 8 = 0
  · rw [liveAt0_4_A t ((hcond0_0 t).mpr h0)] at hi
    exact absurd hi Bool.false_ne_true
  · rw [outsAt0_B m c t h0]; dsimp only; unfold out0_B_4; rfl

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 280 := lt_of_lt_of_eq t.isLt (show cfg0.N = 280 from N_0)
  rw [after0_5, after0_5]
  by_cases h0 : t.val % 8 = 0
  · rw [liveAt0_5_A t ((hcond0_0 t).mpr h0)] at hi
    exact absurd hi Bool.false_ne_true
  · rw [outsAt0_B m c t h0]; dsimp only; unfold out0_B_5; rfl
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2.1 := by
  rw [Dat.before_out_traj _ 3 rfl (fun _ _ => rfl) (hcarry0_3 m c) t.val t rfl d,
    if_neg (by rw [notFresh0_3_B t (fun h => h0 ((hcond0_0 t).mp h))]; exact Bool.false_ne_true)]
  dsimp only [dats]
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 8 = 0) (d) :
    (dats m 0 c).before 4 t d = (outsAt0 m c (t.val - 1) (Nat.lt_of_le_of_lt (Nat.sub_le _ _) t.isLt)).2.2.1 := by
  rw [Dat.before_out_traj _ 4 rfl (fun _ _ => rfl) (hcarry0_4 m c) t.val t rfl d,
    if_neg (by rw [notFresh0_4_B t (fun h => h0 ((hcond0_0 t).mp h))]; exact Bool.false_ne_true)]
  dsimp only [dats]
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 8 = 0) (d) :
    (dats m 0 c).before 5 t d = (outsAt0 m c (t.val - 1) (Nat.lt_of_le_of_lt (Nat.sub_le _ _) t.isLt)).2.2.2 := by
  rw [Dat.before_out_traj _ 5 rfl (fun _ _ => rfl) (hcarry0_5 m c) t.val t rfl d,
    if_neg (by rw [notFresh0_5_B t (fun h => h0 ((hcond0_0 t).mp h))]; exact Bool.false_ne_true)]
  dsimp only [dats]

/-- At a point of case B, output 3's buffer as the body leaves it: what the point before left, which is what the point's
    data say, written back there or not. -/
theorem leaves0_3_B (c : Dev nD) (t : Fin cfg0.N) (h0 : ¬t.val % 8 = 0) :
    (owns (c : Thread nD τ) (ms0_3 t) fullShare (outsAt0 m c (t.val - 1) (Nat.lt_of_le_of_lt (Nat.sub_le _ _) t.isLt)).2.1 : sProp 𝕄)
      ⊢ (dats m 0 c).leavesExact 3 t := by
  have hi := idleAt0_3_B t (fun h => h0 ((hcond0_0 t).mp h))
  have ha : (dats m 0 c).after 3 t = (outsAt0 m c (t.val - 1) (Nat.lt_of_le_of_lt (Nat.sub_le _ _) t.isLt)).2.1 := by
    rw [after0_3, outsAt0_B m c t h0]; dsimp only; unfold out0_B_3; rfl
  cases hf : (cfg0.win 3).flush t
  · rw [Dat.leavesExact_idle _ 3 t hi hf]
    simp only [before0_3_B m c t h0]
    iintro H
    iexists ((dats m 0 c).after 3 t)
    iexact H
  · unfold Dat.leavesExact
    rw [hi, hf, ha]

/-- At a point of case B, output 4's buffer as the body leaves it: what the point before left, which is what the point's
    data say, written back there or not. -/
theorem leaves0_4_B (c : Dev nD) (t : Fin cfg0.N) (h0 : ¬t.val % 8 = 0) :
    (owns (c : Thread nD τ) (ms0_4 t) fullShare (outsAt0 m c (t.val - 1) (Nat.lt_of_le_of_lt (Nat.sub_le _ _) t.isLt)).2.2.1 : sProp 𝕄)
      ⊢ (dats m 0 c).leavesExact 4 t := by
  have hi := idleAt0_4_B t (fun h => h0 ((hcond0_0 t).mp h))
  have ha : (dats m 0 c).after 4 t = (outsAt0 m c (t.val - 1) (Nat.lt_of_le_of_lt (Nat.sub_le _ _) t.isLt)).2.2.1 := by
    rw [after0_4, outsAt0_B m c t h0]; dsimp only; unfold out0_B_4; rfl
  cases hf : (cfg0.win 4).flush t
  · rw [Dat.leavesExact_idle _ 4 t hi hf]
    simp only [before0_4_B m c t h0]
    iintro H
    iexists ((dats m 0 c).after 4 t)
    iexact H
  · unfold Dat.leavesExact
    rw [hi, hf, ha]

/-- At a point of case B, output 5's buffer as the body leaves it: what the point before left, which is what the point's
    data say, written back there or not. -/
theorem leaves0_5_B (c : Dev nD) (t : Fin cfg0.N) (h0 : ¬t.val % 8 = 0) :
    (owns (c : Thread nD τ) (ms0_5 t) fullShare (outsAt0 m c (t.val - 1) (Nat.lt_of_le_of_lt (Nat.sub_le _ _) t.isLt)).2.2.2 : sProp 𝕄)
      ⊢ (dats m 0 c).leavesExact 5 t := by
  have hi := idleAt0_5_B t (fun h => h0 ((hcond0_0 t).mp h))
  have ha : (dats m 0 c).after 5 t = (outsAt0 m c (t.val - 1) (Nat.lt_of_le_of_lt (Nat.sub_le _ _) t.isLt)).2.2.2 := by
    rw [after0_5, outsAt0_B m c t h0]; dsimp only; unfold out0_B_5; rfl
  cases hf : (cfg0.win 5).flush t
  · rw [Dat.leavesExact_idle _ 5 t hi hf]
    simp only [before0_5_B m c t h0]
    iintro H
    iexists ((dats m 0 c).after 5 t)
    iexact H
  · unfold Dat.leavesExact
    rw [hi, hf, ha]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  have hN : t.val < 280 := lt_of_lt_of_eq t.isLt (show cfg0.N = 280 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3_A t ((hcond0_0 t).mpr h0)], after0_3]
    rw [show (dats m 0 c).leavesExact 4 t = owns (c : Thread nD τ) (ms0_4 t) fullShare ((dats m 0 c).after 4 t) from by
      unfold Dat.leavesExact; rw [liveAt0_4_A t ((hcond0_0 t).mpr h0)], after0_4]
    rw [show (dats m 0 c).leavesExact 5 t = owns (c : Thread nD τ) (ms0_5 t) fullShare ((dats m 0 c).after 5 t) from by
      unfold Dat.leavesExact; rw [liveAt0_5_A t ((hcond0_0 t).mpr h0)], after0_5]
    rw [outsAt0_A m c t h0]
    unfold out0_A_2 out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t)).2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, ⟨%e2, H2⟩, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _)
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [outsAt0_B m c t h0]
    simp only [before0_3_B m c t h0, before0_4_B m c t h0, before0_5_B m c t h0]
    unfold out0_B_2; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) _ _ _).2.2.2.2 Set.univ _)
    isplitl [H0]; · iexact H0
    isplitl [H1]; · iexact H1
    isplitl [H2]; · iexists _; iexact H2
    isplitl [H3]; · iexact H3
    isplitl [H4]; · iexact H4
    isplitl [H5]; · iexact H5
    iintro ⟨H0, H1, ⟨%e2, H2⟩, H3, H4, H5⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _)
    isplitl [H3]; · iapply (leaves0_3_B m c t h0); iexact H3
    isplitl [H4]; · iapply (leaves0_4_B m c t h0); iexact H4
    iapply (leaves0_5_B m c t h0); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_Fwd`'s statement (Defs.lean) at any `F` — Proof.lean cites it at `Bits`:
    `theorem Cert.Proof.claim : Cert.Claim := ⟨Cert.Fwd.Gen.facts, fun m ρ _ => Cert.Fwd.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Fwd.Gen

end
-- ==== Proof.lean ====
module

public import proofs.«01_k».proof.Defs
public import proofs.«01_k».proof.Proof.Gen.Dw.Frame
public import proofs.«01_k».proof.Proof.Gen.Dx.Frame
public import proofs.«01_k».proof.Proof.Gen.DwIdeal.Value
public import proofs.«01_k».proof.Proof.Gen.DxIdeal.Value
public import proofs.«01_k».proof.Proof.Gen.RefDwIdeal.Run
public import proofs.«01_k».proof.Proof.Gen.RefDxIdeal.Run
public import proofs.«01_k».proof.Proof.Gen.Fwd.Frame
public import proofs.«01_k».proof.Proof.Gen.FwdIdeal.Frame
public import proofs.«01_k».proof.Proof.DwValue
public import proofs.«01_k».proof.Proof.DxValue
public import proofs.«01_k».proof.Proof.FwdValue
public import proofs.«01_k».proof.Proof.RefFwdValue
public import proofs.«01_k».proof.Proof.KFwdFrame
public import Idealize.ShloMosaic.Lib.Quiescent

/-! The claims put together from the programs' runs. -/

@[expose] public section

noncomputable section

namespace Cert.Proof

open Idealize.ShloMosaic Idealize.ShloMosaic.TcCoe Idealize.SL.Sem

theorem frame_RefDwIdeal : Cert.quiescent_RefDwIdeal := fun m ρ _ =>
  (θ_run Cert.RefDwIdeal.defs _ _).mono (fun r h => ⟨fun c => (h c).2, Idealize.ShloMosaic.sem_eq_zero_of_no_sems (by decide) r.2⟩)
    (Cert.RefDwIdeal.Value.run (F := Ideal) m ρ)

theorem frame_RefDxIdeal : Cert.quiescent_RefDxIdeal := fun m ρ _ =>
  (θ_run Cert.RefDxIdeal.defs _ _).mono (fun r h => ⟨fun c => (h c).2, Idealize.ShloMosaic.sem_eq_zero_of_no_sems (by decide) r.2⟩)
    (Cert.RefDxIdeal.Value.run (F := Ideal) m ρ)

/-- The weight gradient: kernel and reference end with the same sums of products. -/
theorem algebraic_Dw : Cert.algebraic_DwIdeal_RefDwIdeal := by
  intro m ρ m' ρ' _ hagree
  refine ⟨fun c => Cert.DwIdeal.Val.G (m ((c : Thread Cert.DwIdeal.nD Cert.DwIdeal.τ).loc Cert.DwIdeal.main_arg0)) (m ((c : Thread Cert.DwIdeal.nD Cert.DwIdeal.τ).loc Cert.DwIdeal.main_arg1)), ?_, ?_⟩
  · exact (θ_run Cert.DwIdeal.defs _ _).mono (fun _ h c => ⟨(h c).1.trans (Cert.DwIdeal.Val.final m c), (h c).2⟩)
      (Cert.DwIdeal.Value.run_blocks (F := Ideal) m ρ)
  · refine (θ_run Cert.RefDwIdeal.defs _ _).mono (fun _ h c => ⟨(h c).1.trans ?_, (h c).2⟩) (Cert.RefDwIdeal.Value.run (F := Ideal) m' ρ')
    rw [(hagree c).1, (hagree c).2]
    exact Cert.RefDwIdeal.Val.dot_eq _ _

/-- The input gradient: kernel and reference end with the same sums of products. -/
theorem algebraic_Dx : Cert.algebraic_DxIdeal_RefDxIdeal := by
  intro m ρ m' ρ' _ hagree
  refine ⟨fun c => Cert.DxIdeal.Val.G (m ((c : Thread Cert.DxIdeal.nD Cert.DxIdeal.τ).loc Cert.DxIdeal.main_arg0)) (m ((c : Thread Cert.DxIdeal.nD Cert.DxIdeal.τ).loc Cert.DxIdeal.main_arg1)), ?_, ?_⟩
  · exact (θ_run Cert.DxIdeal.defs _ _).mono (fun _ h c => ⟨(h c).1.trans (Cert.DxIdeal.Val.final m c), (h c).2⟩)
      (Cert.DxIdeal.Value.run_blocks (F := Ideal) m ρ)
  · refine (θ_run Cert.RefDxIdeal.defs _ _).mono (fun _ h c => ⟨(h c).1.trans ?_, (h c).2⟩) (Cert.RefDxIdeal.Value.run (F := Ideal) m' ρ')
    rw [(hagree c).1, (hagree c).2]
    exact Cert.RefDxIdeal.Val.ref_eq _ _

/-- The forward pass: on weights whose blocks have normal scales, kernel and reference end with the same product, codes, rounded
    weight and scales. -/
theorem algebraic_Fwd : Cert.algebraic_FwdIdeal_RefFwdIdeal_pre_normal_scales (hPre_normal_scales := Cert.RefFwdIdeal.Val.preFacts) := by
  intro m ρ m' ρ' hpre hagree
  have hN := fun c => Cert.RefFwdIdeal.Val.normal_of_pre (hF := Cert.RefFwdIdeal.Val.preFacts) _ _ (hpre c)
  refine ⟨fun c => shapeCast _ (Cert.FwdIdeal.Val.GY m c) Cert.FwdIdeal.Facts₀.shapeCasts_S6144x17920_S4x1536x17920,
    fun c => Cert.FwdIdeal.Val.GC m c, fun c => Cert.FwdIdeal.Val.GW m c,
    fun c => shapeCast _ (transpose Cert.FwdIdeal.S40x35x4 [1, 0, 2] (Cert.FwdIdeal.Val.GS m c) Cert.FwdIdeal.Facts₀.transposes_S35x40x4_S40x35x4_1_0_2) Cert.FwdIdeal.Facts₀.shapeCasts_S40x35x4_S40x140, ?_, ?_⟩
  · refine (θ_run Cert.FwdIdeal.defs _ _).mono (fun _ h c => ?_) (Cert.FwdIdeal.Value.run (F := Ideal) m ρ)
    obtain ⟨h0, h1, h2, h3, h4⟩ := h c
    refine ⟨h0.trans ?_, h1.trans (Cert.FwdIdeal.Val.final3 m c (hN c)), h2.trans (Cert.FwdIdeal.Val.final4 m c (hN c)), h3.trans ?_, h4⟩
    · exact congrArg (fun g => shapeCast _ g _) (Cert.FwdIdeal.Val.final2 m c (hN c))
    · exact congrArg (fun g => shapeCast _ (transpose _ [1, 0, 2] g _) _) (Cert.FwdIdeal.Val.final5 m c (hN c))
  · refine (θ_run Cert.RefFwdIdeal.defs _ _).mono (fun _ h c => ?_) (Cert.RefFwdIdeal.Value.run (F := Ideal) m' ρ')
    obtain ⟨h0, h1, h2, h3, h4⟩ := h c
    rw [(hagree c).1, (hagree c).2] at h0 h1 h2 h3
    refine ⟨h0.trans (funext fun j => ?_), h1.trans (funext fun j => ?_), h2.trans (funext fun j => ?_), h3.trans (funext fun j => ?_), h4⟩
    · exact (Cert.RefFwdIdeal.Val.G2_at _ _ j).trans (Cert.FwdIdeal.Val.y_split m c j).symm
    · exact Cert.RefFwdIdeal.Val.G3_at _ j
    · exact Cert.RefFwdIdeal.Val.G4_at _ j
    · exact (Cert.RefFwdIdeal.Val.G5_at (m ((c : Thread Cert.FwdIdeal.nD Cert.FwdIdeal.τ).loc Cert.FwdIdeal.main_arg0)) _ j).trans (Cert.FwdIdeal.Val.s_join m c j).symm

theorem claim : Cert.Claim :=
  ⟨Cert.Dw.Gen.facts, Cert.DwIdeal.Gen.facts, Cert.RefDwIdeal.Gen.facts, Cert.Dx.Gen.facts, Cert.DxIdeal.Gen.facts, Cert.RefDxIdeal.Gen.facts,
    Cert.Fwd.Gen.facts, Cert.FwdIdeal.Gen.facts, Cert.RefFwdIdeal.Gen.facts, Cert.RefFwdIdeal.Val.preFacts,
    fun m ρ _ => Cert.Dw.Gen.frame m ρ, fun m ρ _ => Cert.DwIdeal.Gen.frame m ρ, frame_RefDwIdeal,
    fun m ρ _ => Cert.Dx.Gen.frame m ρ, fun m ρ _ => Cert.DxIdeal.Gen.frame m ρ, frame_RefDxIdeal,
    fun m ρ _ => Cert.Fwd.Gen.frame m ρ, fun m ρ _ => Cert.FwdIdeal.Gen.frame m ρ, fun m ρ _ => Cert.FwdIdeal.Gen.frame m ρ,
    fun m ρ _ => Cert.RefFwdIdeal.Gen.frame m ρ, fun m ρ _ => Cert.RefFwdIdeal.Gen.frame m ρ,
    trivial, algebraic_Dw, trivial, algebraic_Dx, trivial, algebraic_Fwd⟩

end Cert.Proof

end
